-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_winner [hPre_one_winner : Cert.Pre_one_winner.Facts] (m : (ℓ : Loc Cert.KernelIdeal.nD Cert.KernelIdeal.τ Cert.KernelIdeal.sig) → Buf (Elt Ideal) ℓ) : Prop :=
  ∀ c : Dev Cert.KernelIdeal.nD,
    (Cert.Pre_one_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_one_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_one_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_winner [hPre_one_winner : Cert.Pre_one_winner.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_winner.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_one_winner.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_one_winner.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_one_winner [hKernelIdeal : Cert.KernelIdeal.Facts] [hPre_one_winner : Cert.Pre_one_winner.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_winner m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_one_winner [hReferenceIdeal : Cert.ReferenceIdeal.Facts] [hPre_one_winner : Cert.Pre_one_winner.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_winner m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "half_plus_eps" .f32 0x3F000000#32 ((77371252455336267182742689 / 154742504910672534362390528 : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "neg_ln2" .f32 0xBF317218#32 ((-(Real.log 2) : ℝ) : EReal)

def algebraic_KernelIdeal_ReferenceIdeal_pre_one_winner [hKernelIdeal : Cert.KernelIdeal.Facts] [hReferenceIdeal : Cert.ReferenceIdeal.Facts] [hPre_one_winner : Cert.Pre_one_winner.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_winner m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_one_winner : Cert.Pre_one_winner.Facts),
    quiescent_Kernel (hKernel := hKernel)
    ∧ quiescent_KernelIdeal (hKernelIdeal := hKernelIdeal)
    ∧ quiescent_KernelIdeal_pre_one_winner (hKernelIdeal := hKernelIdeal) (hPre_one_winner := hPre_one_winner)
    ∧ quiescent_ReferenceIdeal (hReferenceIdeal := hReferenceIdeal)
    ∧ quiescent_ReferenceIdeal_pre_one_winner (hReferenceIdeal := hReferenceIdeal) (hPre_one_winner := hPre_one_winner)
    ∧ preserves_Kernel_KernelIdeal
    ∧ algebraic_KernelIdeal_ReferenceIdeal_pre_one_winner (hKernelIdeal := hKernelIdeal) (hReferenceIdeal := hReferenceIdeal) (hPre_one_winner := hPre_one_winner)
-- ==== Pre_one_winner.lean ====
abbrev S4096x256 : Shape := ⟨2, ![4096, 256]⟩
abbrev S1 : Shape := ⟨1, ![1]⟩
abbrev S256x8192 : Shape := ⟨2, ![256, 8192]⟩
abbrev S8192 : Shape := ⟨1, ![8192]⟩
abbrev S8192x256 : Shape := ⟨2, ![8192, 256]⟩
abbrev S256 : Shape := ⟨1, ![256]⟩
abbrev S1x4096x64x128 : Shape := ⟨4, ![1, 4096, 64, 128]⟩
abbrev S1x256 : Shape := ⟨2, ![1, 256]⟩
abbrev S4096x8192 : Shape := ⟨2, ![4096, 8192]⟩
abbrev S1x8192 : Shape := ⟨2, ![1, 8192]⟩
abbrev S4096x64x128 : Shape := ⟨3, ![4096, 64, 128]⟩
abbrev S1x1x1x1 : Shape := ⟨4, ![1, 1, 1, 1]⟩
abbrev S_ : Shape := ⟨0, ![]⟩
abbrev S1x4096x64 : Shape := ⟨3, ![1, 4096, 64]⟩
abbrev S1x4096x64x1 : Shape := ⟨4, ![1, 4096, 64, 1]⟩

class Facts : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  shapeCasts_S4096x8192_S4096x64x128 : S4096x8192.ShapeCasts S4096x64x128
  bcast_S4096x64x128_S1x4096x64x128_1_2_3 : S4096x64x128.BroadcastsInDim S1x4096x64x128 (![1, 2, 3] : Fin 3 → Fin S1x4096x64x128.rank)
  shapeCasts_S1_S1x1x1x1 : S1.ShapeCasts S1x1x1x1
  bcast_S_S1x4096x64x128 : S_.BroadcastsInDim S1x4096x64x128 (![] : Fin 0 → Fin S1x4096x64x128.rank)
  bcast_S1x1x1x1_S1x4096x64x128_0_1_2_3 : S1x1x1x1.BroadcastsInDim S1x4096x64x128 (![0, 1, 2, 3] : Fin 4 → Fin S1x4096x64x128.rank)
  reducesTo_S1x4096x64x128_S1x4096x64_d3 : S1x4096x64x128.ReducesTo [3] S1x4096x64
  h_S_ : 0 < S_.numel
  bcast_S1x4096x64_S1x4096x64x1_0_1_2 : S1x4096x64.BroadcastsInDim S1x4096x64x1 (![0, 1, 2] : Fin 3 → Fin S1x4096x64x1.rank)
  bcast_S1x4096x64x1_S1x4096x64x128_0_1_2_3 : S1x4096x64x1.BroadcastsInDim S1x4096x64x128 (![0, 1, 2, 3] : Fin 4 → Fin S1x4096x64x128.rank)
  natLt_1_32 : 1 < 32
  bcast_S_S1 : S_.BroadcastsInDim S1 (![] : Fin 0 → Fin S1.rank)
  bcast_S_S1x4096x64x1 : S_.BroadcastsInDim S1x4096x64x1 (![] : Fin 0 → Fin S1x4096x64x1.rank)
  bcast_S_S1x4096x64 : S_.BroadcastsInDim S1x4096x64 (![] : Fin 0 → Fin S1x4096x64.rank)
  dot_S4096x256_S256x8192_S4096x8192_1_0_0_1_n_n_wf : DotDims.WF S4096x256 S256x8192 S4096x8192 [1] [0] [0] [1] [] []

variable [Facts]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def fn_part2 {F : FTy → Type} [FloatOps F] (main_v31 : FVec F S1x4096x64x1 .f32) (main_v35 : IVec S1x4096x64 32) (main_v38 : IVec S1 1) (main_cst_6 : FVec F S_ .f32) : IVec S1 1 × IVec S1x4096x64x1 1 × IVec S1x4096x64 1 :=
  let main_v39 : FVec F S1x4096x64x1 .f32 := broadcastInDim S1x4096x64x1 ![] bcast_S_S1x4096x64x1 main_cst_6
  let main_v40 : IVec S1x4096x64x1 1 := cmpf .olt main_v31 main_v39
  let main_c_7 : IVec S_ 32 := constantI S_ 32 1#32
  let main_v41 : IVec S1x4096x64 32 := broadcastInDim S1x4096x64 ![] bcast_S_S1x4096x64 main_c_7
  let main_v42 : IVec S1x4096x64 1 := cmpi .eq main_v35 main_v41
  (main_v38, main_v40, main_v42)

def fn_part1 {F : FTy → Type} [FloatOps F] (main_arg1 : FVec F S1 .f32) (main_v11 : FVec F S1x4096x64x128 .f32) (main_v20 : FVec F S1x4096x64x128 .f32) : IVec S1 1 × IVec S1x4096x64x1 1 × IVec S1x4096x64 1 :=
  let main_v21 : FVec F S1x4096x64x128 .f32 := Host.log main_v20
  let main_v22 : FVec F S1x4096x64x128 .f32 := Host.negf main_v21
  let main_cst_2 : FVec F S_ .f32 := constant S_ .f32 0x1E3CE508#32
  let main_v23 : FVec F S1x4096x64x128 .f32 := broadcastInDim S1x4096x64x128 ![] bcast_S_S1x4096x64x128 main_cst_2
  let main_v24 : FVec F S1x4096x64x128 .f32 := addf main_v22 main_v23
  let main_v25 : FVec F S1x4096x64x128 .f32 := Host.log main_v24
  let main_v26 : FVec F S1x4096x64x128 .f32 := Host.negf main_v25
  let main_v27 : FVec F S1x4096x64x128 .f32 := addf main_v11 main_v26
  let main_cst_3 : FVec F S_ .f32 := constant S_ .f32 0x3F800000#32
  let main_v28 : FVec F S1x4096x64x128 .f32 := broadcastInDim S1x4096x64x128 ![] bcast_S_S1x4096x64x128 main_cst_3
  let main_v29 : FVec F S1x4096x64x128 .f32 := Host.divf main_v27 main_v28
  let main_cst_4 : FVec F S_ .f32 := constant S_ .f32 0xFF800000#32
  let main_v30 : FVec F S1x4096x64 .f32 := (fun x v => Host.reduce FloatOps.maximumf x v reducesTo_S1x4096x64x128_S1x4096x64_d3 h_S_) main_v29 main_cst_4
  let main_v31 : FVec F S1x4096x64x1 .f32 := broadcastInDim S1x4096x64x1 ![0, 1, 2] bcast_S1x4096x64_S1x4096x64x1_0_1_2 main_v30
  let main_v32 : FVec F S1x4096x64x128 .f32 := broadcastInDim S1x4096x64x128 ![0, 1, 2, 3] bcast_S1x4096x64x1_S1x4096x64x128_0_1_2_3 main_v31
  let main_v33 : IVec S1x4096x64x128 1 := cmpf .oeq main_v29 main_v32
  let main_v34 : IVec S1x4096x64x128 32 := (extui 32 · natLt_1_32) main_v33
  let main_c : IVec S_ 32 := constantI S_ 32 0#32
  let main_v35 : IVec S1x4096x64 32 := (fun x v => Host.reduce IntOp.addi x v reducesTo_S1x4096x64x128_S1x4096x64_d3 h_S_) main_v34 main_c
  let main_v36 : FVec F S1 .f32 := Host.absf main_arg1
  let main_cst_5 : FVec F S_ .f32 := constant S_ .f32 0x7F800000#32
  let main_v37 : FVec F S1 .f32 := broadcastInDim S1 ![] bcast_S_S1 main_cst_5
  let main_v38 : IVec S1 1 := cmpf .olt main_v36 main_v37
  let main_cst_6 : FVec F S_ .f32 := constant S_ .f32 0x7F800000#32
  fn_part2 (F := F) main_v31 main_v35 main_v38 main_cst_6

def fn {F : FTy → Type} [FloatOps F] (main_arg0 : FVec F S4096x256 .f32) (main_arg1 : FVec F S1 .f32) (main_arg2 : FVec F S256x8192 .f32) (main_arg3 : FVec F S8192 .f32) (main_arg4 : FVec F S8192x256 .f32) (main_arg5 : FVec F S256 .f32) (main_arg6 : FVec F S256 .f32) (main_arg7 : FVec F S256 .f32) (main_arg8 : FVec F S256 .f32) (main_arg9 : FVec F S256 .f32) (main_arg10 : FVec F S1x4096x64x128 .f32) : IVec S1 1 × IVec S1x4096x64x1 1 × IVec S1x4096x64 1 :=
  let main_v0 : FVec F S1x256 .f32 := broadcastInDim S1x256 ![1] bcast_S256_S1x256_1 main_arg6
  let main_v1 : FVec F S4096x256 .f32 := broadcastInDim S4096x256 ![0, 1] bcast_S1x256_S4096x256_0_1 main_v0
  let main_v2 : FVec F S4096x256 .f32 := subf main_arg0 main_v1
  let main_v3 : FVec F S1x256 .f32 := broadcastInDim S1x256 ![1] bcast_S256_S1x256_1 main_arg7
  let main_v4 : FVec F S4096x256 .f32 := broadcastInDim S4096x256 ![0, 1] bcast_S1x256_S4096x256_0_1 main_v3
  let main_v5 : FVec F S4096x256 .f32 := Host.divf main_v2 main_v4
  let main_v6 : FVec F S4096x8192 .f32 := (fun l r => Host.dotGeneral dot_S4096x256_S256x8192_S4096x8192_1_0_0_1_n_n none l r) main_v5 main_arg2
  let main_v7 : FVec F S1x8192 .f32 := broadcastInDim S1x8192 ![1] bcast_S8192_S1x8192_1 main_arg3
  let main_v8 : FVec F S4096x8192 .f32 := broadcastInDim S4096x8192 ![0, 1] bcast_S1x8192_S4096x8192_0_1 main_v7
  let main_v9 : FVec F S4096x8192 .f32 := addf main_v6 main_v8
  let main_v10 : FVec F S4096x64x128 .f32 := shapeCast S4096x64x128 main_v9 shapeCasts_S4096x8192_S4096x64x128
  let main_v11 : FVec F S1x4096x64x128 .f32 := broadcastInDim S1x4096x64x128 ![1, 2, 3] bcast_S4096x64x128_S1x4096x64x128_1_2_3 main_v10
  let main_v12 : FVec F S1x1x1x1 .f32 := shapeCast S1x1x1x1 main_arg1 shapeCasts_S1_S1x1x1x1
  let main_cst : FVec F S_ .f32 := constant S_ .f32 0x3F000000#32
  let main_v13 : FVec F S1x4096x64x128 .f32 := broadcastInDim S1x4096x64x128 ![] bcast_S_S1x4096x64x128 main_cst
  let main_v14 : FVec F S1x4096x64x128 .f32 := subf main_arg10 main_v13
  let main_v15 : FVec F S1x4096x64x128 .f32 := broadcastInDim S1x4096x64x128 ![0, 1, 2, 3] bcast_S1x1x1x1_S1x4096x64x128_0_1_2_3 main_v12
  let main_v16 : FVec F S1x4096x64x128 .f32 := mulf main_v15 main_v14
  let main_cst_0 : FVec F S_ .f32 := constant S_ .f32 0x3F000000#32
  let main_v17 : FVec F S1x4096x64x128 .f32 := broadcastInDim S1x4096x64x128 ![] bcast_S_S1x4096x64x128 main_cst_0
  let main_v18 : FVec F S1x4096x64x128 .f32 := addf main_v16 main_v17
  let main_cst_1 : FVec F S_ .f32 := constant S_ .f32 0x1E3CE508#32
  let main_v19 : FVec F S1x4096x64x128 .f32 := broadcastInDim S1x4096x64x128 ![] bcast_S_S1x4096x64x128 main_cst_1
  let main_v20 : FVec F S1x4096x64x128 .f32 := addf main_v18 main_v19
  fn_part1 (F := F) main_arg1 main_v11 main_v20
-- ==== Kernel.lean ====
abbrev S4096x256 : Shape := ⟨2, ![4096, 256]⟩
abbrev S1 : Shape := ⟨1, ![1]⟩
abbrev S256x8192 : Shape := ⟨2, ![256, 8192]⟩
abbrev S8192 : Shape := ⟨1, ![8192]⟩
abbrev S8192x256 : Shape := ⟨2, ![8192, 256]⟩
abbrev S256 : Shape := ⟨1, ![256]⟩
abbrev S1x4096x64x128 : Shape := ⟨4, ![1, 4096, 64, 128]⟩
abbrev S4096x64x128 : Shape := ⟨3, ![4096, 64, 128]⟩
abbrev S1x1 : Shape := ⟨2, ![1, 1]⟩
abbrev S1x8192 : Shape := ⟨2, ![1, 8192]⟩
abbrev S1x256 : Shape := ⟨2, ![1, 256]⟩
abbrev S4096x8192 : Shape := ⟨2, ![4096, 8192]⟩
abbrev S128x256 : Shape := ⟨2, ![128, 256]⟩
abbrev S128x64x128 : Shape := ⟨3, ![128, 64, 128]⟩
abbrev S128x8192 : Shape := ⟨2, ![128, 8192]⟩
abbrev S128x128 : Shape := ⟨2, ![128, 128]⟩
abbrev S128 : Shape := ⟨1, ![128]⟩
abbrev S128x1 : Shape := ⟨2, ![128, 1]⟩

abbrev nBuf : Space → Nat
  | .hbm => 21
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S1, .f32⟩
  | .hbm, ⟨2, _⟩ => ⟨S256x8192, .f32⟩
  | .hbm, ⟨3, _⟩ => ⟨S8192, .f32⟩
  | .hbm, ⟨4, _⟩ => ⟨S8192x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S1x4096x64x128, .f32⟩
  | .hbm, ⟨11, _⟩ => ⟨S4096x64x128, .f32⟩
  | .hbm, ⟨12, _⟩ => ⟨S1x1, .f32⟩
  | .hbm, ⟨13, _⟩ => ⟨S1x8192, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S4096x256, .f32⟩
  | .hbm, ⟨20, _⟩ => ⟨S4096x8192, .f32⟩
  | .local _ .vmem, ⟨0, _⟩ => ⟨S128x256, .f32⟩
  | .local _ .vmem, ⟨1, _⟩ => ⟨S128x256, .f32⟩
  | .local _ .vmem, ⟨2, _⟩ => ⟨S1x1, .f32⟩
  | .local _ .vmem, ⟨3, _⟩ => ⟨S256x8192, .f32⟩
  | .local _ .vmem, ⟨4, _⟩ => ⟨S1x8192, .f32⟩
  | .local _ .vmem, ⟨5, _⟩ => ⟨S8192x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S128x64x128, .f32⟩
  | .local _ .vmem, ⟨12, _⟩ => ⟨S128x64x128, .f32⟩
  | .local _ .vmem, ⟨13, _⟩ => ⟨S128x256, .f32⟩
  | .local _ .vmem, ⟨14, _⟩ => ⟨S128x256, .f32⟩
  | .local _ .vmem, ⟨15, _⟩ => ⟨S128x8192, .f32⟩
  | .local _ .vmem, ⟨16, _⟩ => ⟨S128x8192, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "half_plus_eps" => some ((77371252455336267182742689 / 154742504910672534362390528 : ℝ) : EReal)
  | "inv_ln2" => some (((Real.log 2)⁻¹ : ℝ) : EReal)
  | "neg_ln2" => some ((-(Real.log 2) : ℝ) : EReal)
  | _ => none
-- ==== ReferenceIdeal.lean ====
abbrev S4096x256 : Shape := ⟨2, ![4096, 256]⟩
abbrev S1 : Shape := ⟨1, ![1]⟩
abbrev S256x8192 : Shape := ⟨2, ![256, 8192]⟩
abbrev S8192 : Shape := ⟨1, ![8192]⟩
abbrev S8192x256 : Shape := ⟨2, ![8192, 256]⟩
abbrev S256 : Shape := ⟨1, ![256]⟩
abbrev S1x4096x64x128 : Shape := ⟨4, ![1, 4096, 64, 128]⟩
abbrev S1x256 : Shape := ⟨2, ![1, 256]⟩
abbrev S4096x8192 : Shape := ⟨2, ![4096, 8192]⟩
abbrev S1x8192 : Shape := ⟨2, ![1, 8192]⟩
abbrev S4096x64x128 : Shape := ⟨3, ![4096, 64, 128]⟩
abbrev S1x1x1x1 : Shape := ⟨4, ![1, 1, 1, 1]⟩
abbrev S_ : Shape := ⟨0, ![]⟩
abbrev S1x4096x64 : Shape := ⟨3, ![1, 4096, 64]⟩
abbrev S1x4096x64x1 : Shape := ⟨4, ![1, 4096, 64, 1]⟩
abbrev S1x1x1x128 : Shape := ⟨4, ![1, 1, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1, .f32⟩
  | .hbm, ⟨2, _⟩ => ⟨S256x8192, .f32⟩
  | .hbm, ⟨3, _⟩ => ⟨S8192, .f32⟩
  | .hbm, ⟨4, _⟩ => ⟨S8192x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S1x4096x64x128, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S4096x8192, .f32⟩
  | .hbm, ⟨18, _⟩ => ⟨S1x8192, .f32⟩
  | .hbm, ⟨19, _⟩ => ⟨S4096x8192, .f32⟩
  | .hbm, ⟨20, _⟩ => ⟨S4096x8192, .f32⟩
  | .hbm, ⟨21, _⟩ => ⟨S4096x64x128, .f32⟩
  | .hbm, ⟨22, _⟩ => ⟨S1x4096x64x128, .f32⟩
  | .hbm, ⟨23, _⟩ => ⟨S1x1x1x1, .f32⟩
  | .hbm, ⟨24, _⟩ => ⟨S_, .f32⟩
  | .hbm, ⟨25, _⟩ => ⟨S1x4096x64x128, .f32⟩
  | .hbm, ⟨26, _⟩ => ⟨S1x4096x64x128, .f32⟩
  | .hbm, ⟨27, _⟩ => ⟨S1x4096x64x128, .f32⟩
  | .hbm, ⟨28, _⟩ => ⟨S1x4096x64x128, .f32⟩
  | .hbm, ⟨29, _⟩ => ⟨S_, .f32⟩
  | .hbm, ⟨30, _⟩ => ⟨S1x4096x64x128, .f32⟩
  | .hbm, ⟨31, _⟩ => ⟨S1x4096x64x128, .f32⟩
  | .hbm, ⟨32, _⟩ => ⟨S_, .f32⟩
  | .hbm, ⟨33, _⟩ => ⟨S1x4096x64x128, .f32⟩
  | .hbm, ⟨34, _⟩ => ⟨S1x4096x64x128, .f32⟩
  | .hbm, ⟨35, _⟩ => ⟨S1x4096x64x128, .f32⟩
  | .hbm, ⟨36, _⟩ => ⟨S1x4096x64x128, .f32⟩
  | .hbm, ⟨37, _⟩ => ⟨S_, .f32⟩
  | .hbm, ⟨38, _⟩ => ⟨S1x4096x64x128, .f32⟩
  | .hbm, ⟨39, _⟩ => ⟨S1x4096x64x128, .f32⟩
  | .hbm, ⟨40, _⟩ => ⟨S1x4096x64x128, .f32⟩
  | .hbm, ⟨41, _⟩ => ⟨S1x4096x64x128, .f32⟩
  | .hbm, ⟨42, _⟩ => ⟨S1x4096x64x128, .f32⟩
  | .hbm, ⟨43, _⟩ => ⟨S_, .f32⟩
  | .hbm, ⟨44, _⟩ => ⟨S1x4096x64x128, .f32⟩
  | .hbm, ⟨45, _⟩ => ⟨S1x4096x64x128, .f32⟩
  | .hbm, ⟨46, _⟩ => ⟨S_, .f32⟩
  | .hbm, ⟨47, _⟩ => ⟨S1x4096x64, .f32⟩
  | .hbm, ⟨48, _⟩ => ⟨S_, .f32⟩
  | .hbm, ⟨49, _⟩ => ⟨S1x4096x64, .f32⟩
  | .hbm, ⟨50, _⟩ => ⟨S1x4096x64, .f32⟩
  | .hbm, ⟨51, _⟩ => ⟨S1x4096x64x1, .f32⟩
  | .hbm, ⟨52, _⟩ => ⟨S1x4096x64x128, .f32⟩
  | .hbm, ⟨53, _⟩ => ⟨S1x4096x64x128, .f32⟩
  | .hbm, ⟨54, _⟩ => ⟨S1x4096x64x128, .f32⟩
  | .hbm, ⟨55, _⟩ => ⟨S_, .f32⟩
  | .hbm, ⟨56, _⟩ => ⟨S1x4096x64, .f32⟩
  | .hbm, ⟨57, _⟩ => ⟨S1x4096x64x1, .f32⟩
  | .hbm, ⟨58, _⟩ => ⟨S1x4096x64x128, .f32⟩
  | .hbm, ⟨59, _⟩ => ⟨S1x4096x64x128, .f32⟩
  | .hbm, ⟨60, _⟩ => ⟨S1x4096x64x128, .i32⟩
  | .hbm, ⟨61, _⟩ => ⟨S_, .f32⟩
  | .hbm, ⟨62, _⟩ => ⟨S_, .i32⟩
  | .hbm, ⟨63, _⟩ => ⟨S1x4096x64, .f32⟩
  | .hbm, ⟨64, _⟩ => ⟨S1x4096x64, .i32⟩
  | .hbm, ⟨65, _⟩ => ⟨S1x4096x64x1, .i32⟩
  | .hbm, ⟨66, _⟩ => ⟨S1x1x1x128, .i32⟩
  | .hbm, ⟨67, _⟩ => ⟨S1x4096x64x128, .i32⟩
  | .hbm, ⟨68, _⟩ => ⟨S1x4096x64x128, .i32⟩
  | .hbm, ⟨69, _⟩ => ⟨S1x4096x64x128, .i1⟩
  | .hbm, ⟨70, _⟩ => ⟨S1x4096x64x128, .f32⟩
  | .hbm, ⟨71, _⟩ => ⟨S1x4096x64x128, .f32⟩
  | .hbm, ⟨72, _⟩ => ⟨S1x4096x64x128, .f32⟩
  | .hbm, ⟨73, _⟩ => ⟨S4096x8192, .f32⟩
  | .hbm, ⟨74, _⟩ => ⟨S4096x256, .f32⟩
  | .hbm, ⟨75, _⟩ => ⟨S1x256, .f32⟩
  | .hbm, ⟨76, _⟩ => ⟨S4096x256, .f32⟩
  | .hbm, ⟨77, _⟩ => ⟨S4096x256, .f32⟩
  | .hbm, ⟨78, _⟩ => ⟨S1x256, .f32⟩
  | .hbm, ⟨79, _⟩ => ⟨S4096x256, .f32⟩
  | .hbm, ⟨80, _⟩ => ⟨S4096x256, .f32⟩
  | .hbm, ⟨81, _⟩ => ⟨S1x256, .f32⟩
  | .hbm, ⟨82, _⟩ => ⟨S4096x256, .f32⟩
  | .hbm, ⟨83, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_v0 : Ref sig .tc := ⟨.hbm, 60, rfl⟩
abbrev main_call0_cst : Ref sig .tc := ⟨.hbm, 61, rfl⟩
abbrev main_call0_c : Ref sig .tc := ⟨.hbm, 62, rfl⟩
abbrev main_call0_v1_0 : Ref sig .tc := ⟨.hbm, 63, rfl⟩
abbrev main_v41 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== Proof.RefTerms.lean ====
/- What the reference computes, written as the operations of its program, one definition for each stage: the
   perturbed logits, the softmax, the index of the largest, the one-hot code and the decoded output. -/
module

public import proofs.«01_k».proof.ReferenceIdeal
public import proofs.«01_k».proof.Proof.Gen.ReferenceIdeal
public import Idealize.ShloMosaic.PureOps.Ideal

@[expose] public section

noncomputable section

namespace Cert.Proof.Ref

open Cert.ReferenceIdeal Cert.ReferenceIdeal.Facts₀ Idealize.ShloMosaic

/-- The logits: the input made standard, times the estimator's weights, plus its bias. -/
def logits (x : FVec Ideal S4096x256 .f32) (we : FVec Ideal S256x8192 .f32) (be : FVec Ideal S8192 .f32)
    (xm xs : FVec Ideal S256 .f32) : FVec Ideal S4096x8192 .f32 :=
  addf
    (Host.dotGeneral dot_S4096x256_S256x8192_S4096x8192_1_0_0_1_n_n none
      (Host.divf
        (subf x (broadcastInDim S4096x256 ![0, 1] bcast_S1x256_S4096x256_0_1 (broadcastInDim S1x256 ![1] bcast_S256_S1x256_1 xm)))
        (broadcastInDim S4096x256 ![0, 1] bcast_S1x256_S4096x256_0_1 (broadcastInDim S1x256 ![1] bcast_S256_S1x256_1 xs)))
      we)
    (broadcastInDim S4096x8192 ![0, 1] bcast_S1x8192_S4096x8192_0_1 (broadcastInDim S1x8192 ![1] bcast_S8192_S1x8192_1 be))

/-- The Gumbel noise made from the uniform noise. -/
def gumbel (k : FVec Ideal S1 .f32) (noise : FVec Ideal S1x4096x64x128 .f32) : FVec Ideal S1x4096x64x128 .f32 :=
  Host.negf (Host.log
    (addf
      (Host.negf (Host.log
        (addf
          (addf
            (mulf
              (broadcastInDim S1x4096x64x128 ![0, 1, 2, 3] bcast_S1x1x1x1_S1x4096x64x128_0_1_2_3
                (shapeCast S1x1x1x1 k shapeCasts_S1_S1x1x1x1))
              (subf noise (broadcastInDim S1x4096x64x128 ![] bcast_S_S1x4096x64x128 (constant S_ .f32 0x3F000000#32))))
            (broadcastInDim S1x4096x64x128 ![] bcast_S_S1x4096x64x128 (constant S_ .f32 0x3F000000#32)))
          (broadcastInDim S1x4096x64x128 ![] bcast_S_S1x4096x64x128 (constant S_ .f32 0x1E3CE508#32)))))
      (broadcastInDim S1x4096x64x128 ![] bcast_S_S1x4096x64x128 (constant S_ .f32 0x1E3CE508#32))))

/-- The perturbed logits, over the temperature one. -/
def perturbed (x : FVec Ideal S4096x256 .f32) (k : FVec Ideal S1 .f32) (we : FVec Ideal S256x8192 .f32)
    (be : FVec Ideal S8192 .f32) (xm xs : FVec Ideal S256 .f32) (noise : FVec Ideal S1x4096x64x128 .f32) :
    FVec Ideal S1x4096x64x128 .f32 :=
  Host.divf
    (addf
      (broadcastInDim S1x4096x64x128 ![1, 2, 3] bcast_S4096x64x128_S1x4096x64x128_1_2_3
        (shapeCast S4096x64x128 (logits x we be xm xs) shapeCasts_S4096x8192_S4096x64x128))
      (gumbel k noise))
    (broadcastInDim S1x4096x64x128 ![] bcast_S_S1x4096x64x128 (constant S_ .f32 0x3F800000#32))

/-- The exponentials of the perturbed logits less their largest. -/
def expShift (a : FVec Ideal S1x4096x64x128 .f32) : FVec Ideal S1x4096x64x128 .f32 :=
  Host.exp
    (subf a
      (broadcastInDim S1x4096x64x128 ![0, 1, 2, 3] bcast_S1x4096x64x1_S1x4096x64x128_0_1_2_3
        (broadcastInDim S1x4096x64x1 ![0, 1, 2] bcast_S1x4096x64_S1x4096x64x1_0_1_2
          (maximumf
            (broadcastInDim S1x4096x64 ![] bcast_S_S1x4096x64 (constant S_ .f32 0xFF800000#32))
            (Host.reduce FloatOps.maximumf a (constant S_ .f32 0xFF800000#32) reducesTo_S1x4096x64x128_S1x4096x64_d3 h_S_)))))

/-- The softmax, from the exponentials. -/
def soft (e : FVec Ideal S1x4096x64x128 .f32) : FVec Ideal S1x4096x64x128 .f32 :=
  Host.divf e
    (broadcastInDim S1x4096x64x128 ![0, 1, 2, 3] bcast_S1x4096x64x1_S1x4096x64x128_0_1_2_3
      (broadcastInDim S1x4096x64x1 ![0, 1, 2] bcast_S1x4096x64_S1x4096x64x1_0_1_2
        (Host.reduceAdd e (constant S_ .f32 0x00000000#32) reducesTo_S1x4096x64x128_S1x4096x64_d3 h_S_)))

/-- The second of the two results of a two-operand reduction that keeps a pair. -/
def argIdx {s t u : Shape} {axes : List (Fin s.rank)} {β : Type} (f : EReal × β → EReal × β → EReal × β)
    (x : FVec Ideal s .f32) (y : s.Idx → β) (ix : FVec Ideal u .f32) (iy : u.Idx → β) (h : s.ReducesTo axes t)
    (hu : 0 < u.numel) : t.Idx → β :=
  fun j => (Host.argReduce (F := Ideal) (φ := .f32) f x y ix iy h hu j).2

/-- The index of the largest of a row. -/
def winner (y : FVec Ideal S1x4096x64x128 .f32) : IVec S1x4096x64 32 :=
  argIdx (reducer_argmax_f32_i32 (F := Ideal)) y (iotaInDim S1x4096x64x128 32 3) (constant S_ .f32 0xFF800000#32)
    (constantI S_ 32 0#32) reducesTo_S1x4096x64x128_S1x4096x64_d3 h_S_

/-- One at the given index of each row, zero elsewhere. -/
def oneHot (w : IVec S1x4096x64 32) : FVec Ideal S1x4096x64x128 .f32 :=
  uitofp .f32
    (cmpi .eq
      (broadcastInDim S1x4096x64x128 ![0, 1, 2, 3] bcast_S1x4096x64x1_S1x4096x64x128_0_1_2_3
        (broadcastInDim S1x4096x64x1 ![0, 1, 2] bcast_S1x4096x64_S1x4096x64x1_0_1_2 w))
      (broadcastInDim S1x4096x64x128 ![0, 1, 2, 3] bcast_S1x1x1x128_S1x4096x64x128_0_1_2_3 (iotaInDim S1x1x1x128 32 3)))

/-- The straight-through code of a softmax: its one-hot, less itself, plus itself. -/
def through (y : FVec Ideal S1x4096x64x128 .f32) : FVec Ideal S1x4096x64x128 .f32 :=
  addf (subf (oneHot (winner y)) y) y

/-- The code of the perturbed logits. -/
def code (a : FVec Ideal S1x4096x64x128 .f32) : FVec Ideal S4096x8192 .f32 :=
  shapeCast S4096x8192 (through (soft (expShift a))) shapeCasts_S1x4096x64x128_S4096x8192

/-- The decoded output of a code. -/
def decoded (q : FVec Ideal S4096x8192 .f32) (wd : FVec Ideal S8192x256 .f32) (bd ym ys : FVec Ideal S256 .f32) :
    FVec Ideal S4096x256 .f32 :=
  addf
    (mulf
      (addf (Host.dotGeneral dot_S4096x8192_S8192x256_S4096x256_1_0_0_1_n_n none q wd)
        (broadcastInDim S4096x256 ![0, 1] bcast_S1x256_S4096x256_0_1 (broadcastInDim S1x256 ![1] bcast_S256_S1x256_1 bd)))
      (broadcastInDim S4096x256 ![0, 1] bcast_S1x256_S4096x256_0_1 (broadcastInDim S1x256 ![1] bcast_S256_S1x256_1 ys)))
    (broadcastInDim S4096x256 ![0, 1] bcast_S1x256_S4096x256_0_1 (broadcastInDim S1x256 ![1] bcast_S256_S1x256_1 ym))

end Cert.Proof.Ref

end
-- ==== Proof.RefRun.lean ====
/- The run of the reference: its two results end as the stages of `RefTerms` say, its arguments as they were, and its
   semaphores, of which it declares none, at zero. -/
module

public import proofs.«01_k».proof.Proof.RefTerms
public import Idealize.ShloMosaic.Lib.Claim
public import Idealize.ShloMosaic.Lib.Tactic
public import Idealize.ShloMosaic.Lib.Quiescent

@[expose] public section

noncomputable section

namespace Cert.Proof.Ref

open Cert.ReferenceIdeal Idealize.ShloMosaic Idealize.SL.Sem

variable (m : (ℓ : Loc nD τ sig) → Buf (Elt Ideal) ℓ) (g : Dev nD → PrngReg)

/-- The contents of a buffer at the launch. -/
abbrev at0 (c : Dev nD) (b : Ref sig .tc) := m ((c.tc : Thread nD τ).loc b)

/-- The perturbed logits of the launch's arguments. -/
def logitsAt (c : Dev nD) : FVec Ideal S1x4096x64x128 .f32 :=
  perturbed (at0 m c main_arg0) (at0 m c main_arg1) (at0 m c main_arg2) (at0 m c main_arg3) (at0 m c main_arg6)
    (at0 m c main_arg7) (at0 m c main_arg10)

set_option maxHeartbeats 4000000 in
/-- What the two results and the arguments of the reference hold at its end. -/
theorem run : θ_run (defs (F := Ideal)) (onTc (τ := τ) (main (F := Ideal))) ⟨m, fun _ => 0, g⟩ fun r => ∀ c : Dev nD,
    r.2.mem ((c.tc : Thread nD τ).loc main_v55)
        = decoded (code (logitsAt m c)) (at0 m c main_arg4) (at0 m c main_arg5) (at0 m c main_arg8) (at0 m c main_arg9)
    ∧ r.2.mem ((c.tc : Thread nD τ).loc main_v45) = code (logitsAt m c)
    ∧ r.2.mem ((c.tc : Thread nD τ).loc main_arg0) = at0 m c main_arg0
    ∧ r.2.mem ((c.tc : Thread nD τ).loc main_arg1) = at0 m c main_arg1
    ∧ r.2.mem ((c.tc : Thread nD τ).loc main_arg2) = at0 m c main_arg2
    ∧ r.2.mem ((c.tc : Thread nD τ).loc main_arg3) = at0 m c main_arg3
    ∧ r.2.mem ((c.tc : Thread nD τ).loc main_arg4) = at0 m c main_arg4
    ∧ r.2.mem ((c.tc : Thread nD τ).loc main_arg5) = at0 m c main_arg5
    ∧ r.2.mem ((c.tc : Thread nD τ).loc main_arg6) = at0 m c main_arg6
    ∧ r.2.mem ((c.tc : Thread nD τ).loc main_arg7) = at0 m c main_arg7
    ∧ r.2.mem ((c.tc : Thread nD τ).loc main_arg8) = at0 m c main_arg8
    ∧ r.2.mem ((c.tc : Thread nD τ).loc main_arg9) = at0 m c main_arg9
    ∧ r.2.mem ((c.tc : Thread nD τ).loc main_arg10) = at0 m c main_arg10 := by
  hlo_run
  all_goals simp -implicitDefEqProofs only [StableHlo.TRef.ofBuf_toBuf, StableHlo.TRef.toBuf, StableHlo.TRef.ofBuf, cast_cast, cast_eq]
  · rfl
  · rfl

/-- A final state of the reference has every semaphore at zero. -/
theorem sem_zero (s : MemSt nD τ sig (Elt Ideal)) : s.sem = fun _ => 0 :=
  sem_eq_zero_of_no_sems (sig := sig) (by decide) s

end Cert.Proof.Ref

end
-- ==== Proof.Frames.lean ====
/- The claims that speak of one program only: each of the three programs leaves its arguments as they were and its
   semaphores at zero, and the three named constants are the values their names say. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.RefRun
public import proofs.«01_k».proof.Proof.Gen.Pre_one_winner

@[expose] public section

noncomputable section

namespace Cert.Proof

open Idealize.ShloMosaic Idealize.SL.Sem

/-- The kernel as printed keeps its arguments. -/
theorem kernel_frame : quiescent_Kernel := fun m g _ => Cert.Kernel.Gen.frame m g

/-- The kernel with its named constants keeps its arguments. -/
theorem kernelIdeal_frame : quiescent_KernelIdeal := fun m g _ => Cert.KernelIdeal.Gen.frame m g

/-- The same where the precondition holds. -/
theorem kernelIdeal_frame_pre : quiescent_KernelIdeal_pre_one_winner := fun m g _ => Cert.KernelIdeal.Gen.frame m g

/-- The reference keeps its arguments. -/
theorem reference_frame : quiescent_ReferenceIdeal := fun m g _ =>
  θ_run_mono (Ref.run m g) fun r h => ⟨fun c => (h c).2.2, Ref.sem_zero r.2⟩

/-- The same where the precondition holds. -/
theorem reference_frame_pre : quiescent_ReferenceIdeal_pre_one_winner := fun m g _ =>
  θ_run_mono (Ref.run m g) fun r h => ⟨fun c => (h c).2.2, Ref.sem_zero r.2⟩

/-- The three named constants are the numbers that their names say. -/
theorem constants : preserves_Kernel_KernelIdeal :=
  ⟨IdealRules.named_const.statement _ _ _ _ _ rfl, IdealRules.named_const.statement _ _ _ _ _ rfl, IdealRules.named_const.statement _ _ _ _ _ rfl⟩

end Cert.Proof

end
-- ==== Proof.KernelCodes.lean ====
/- What one grid point writes: the 64 stores of the codes are the columns of ONE function of the perturbed logits, and the
   result block is the decoder applied to that function. -/
module

public import proofs.«01_k».proof.Proof.Gen.KernelIdeal.Value
public import Idealize.ShloMosaic.Lib.Pipeline.ReadBack
public import Idealize.ShloMosaic.Lib.Pointwise

@[expose] public section

noncomputable section

namespace Cert.Proof.Ker

open Cert.KernelIdeal Cert.KernelIdeal.Gen Idealize.ShloMosaic Idealize.ShloMosaic.TcCoe

/-- The number one where a bit is set, zero elsewhere, as the kernel converts it. -/
def asNumber (p : Bool) : EReal := FloatOps.sitofp (F := Ideal) .f32 (BitVec.setWidth 32 (BitVec.ofBool p))

/-- Column `x` of the group of 128 columns in which column `l` lies. -/
def inGroup (l : Fin 8192) (x : Fin 128) : Fin 8192 := ⟨l.val / 128 * 128 + x.val, by omega⟩

/-- The code at an index: one where the entry equals the largest of its row's group of 128. -/
def codeAt (a : FVec Ideal S128x8192 .f32) (r : Fin 128) (l : Fin 8192) : EReal :=
  asNumber (decide (a (ix2 r l) =
    Finset.fold max (Ideal.ofBits .f32 0xFF800000#32) (fun x => a (ix2 r (inGroup l x))) Finset.univ))

/-- The codes of a block. -/
def codes (a : FVec Ideal S128x8192 .f32) : FVec Ideal S128x8192 .f32 := fun y => codeAt a (y 0) (y 1)

/-- Where each of the 128 columns starting at `o` equals the largest of its row among them: the number one, elsewhere zero. -/
def hotFrom (o : ℕ) (h : S128x8192.Slices ![0, o] S128x128) (a : FVec Ideal S128x8192 .f32) : FVec Ideal S128x128 .f32 :=
  sitofp .f32 (extui 32 (cmpf .oeq (extractStridedSlice S128x128 ![0, o] a h)
    (broadcastTo S128x128 (shapeCast S128x1 (multiReduction .maximumf [1] S128 (extractStridedSlice S128x128 ![0, o] a h)
      0xFF800000#32 reduces_S128x128_S128 (.inl rfl) rfl) shapeCasts_S128_S128x1) broadcasts_S128x1_S128x128)) natLt_1_32)

/-- A group's columns are the codes there. -/
theorem hotFrom_apply (o : ℕ) (h : S128x8192.Slices ![0, o] S128x128) (ho : o % 128 = 0) (a : FVec Ideal S128x8192 .f32)
    (r d : Fin 128) (l : Fin 8192) (hl : l.val = o + d.val) : hotFrom o h a (ix2 r d) = codeAt a r l := by
  have ob : o + 128 ≤ 8192 := by have := h.2 1; simpa using this
  have key : hotFrom o h a (ix2 r d) = asNumber (decide (a (ix2 r l) =
      Finset.fold max (Ideal.ofBits .f32 0xFF800000#32) (fun x : Fin 128 => a (ix2 r ⟨o + x.val, by omega⟩)) Finset.univ)) := by
    obtain ⟨l, hl'⟩ := l
    obtain rfl : l = o + d.val := hl
    unfold asNumber
    pointwise [hotFrom]
  rw [key]
  have hg : ∀ x : Fin 128, (⟨o + x.val, by omega⟩ : Fin 8192) = inGroup l x := fun x =>
    Fin.ext (by simp only [inGroup]; omega)
  unfold codeAt
  simp only [hg]

/-- So a store of a group's columns is the codes' restriction to them. -/
theorem piece (o : ℕ) (h : S128x8192.Slices ![0, o] S128x128) (ho : o % 128 = 0) (a : FVec Ideal S128x8192 .f32)
    (inb : ∀ b, ![0, o] b + S128x128.size b ≤ S128x8192.size b) (x : S128x128.Idx) :
    hotFrom o h a x = codes a ((Rect.unit (s := S128x8192) ![0, o] S128x128.size inb).emb x) := by
  have hx : x = ix2 (x 0) (x 1) := funext fun b => by fin_cases b <;> rfl
  have h0 : (Rect.unit (s := S128x8192) ![0, o] S128x128.size inb).emb x 0 = x 0 :=
    Fin.ext (by rw [Rect.emb_apply]; simp)
  unfold codes
  rw [h0]
  conv_lhs => rw [hx]
  exact hotFrom_apply o h ho a (x 0) (x 1) _ (by rw [Rect.emb_apply]; simp)

/-- The perturbed logits of a block, as the kernel computes them. -/
def noisy (x0 : FVec Ideal S128x256 .f32) (x1 : FVec Ideal S1x1 .f32) (x2 : FVec Ideal S256x8192 .f32) (x3 : FVec Ideal S1x8192 .f32)
    (x6 x7 : FVec Ideal S1x256 .f32) (x10 : FVec Ideal S128x64x128 .f32) : FVec Ideal S128x8192 .f32 :=
  k0_pay5 (k0_pay2 x0 x6 x7 x2 x3) (k0_pay3 x1 x10) k0_pay4

section
variable (c : Dev nD) (i : grid0.Coords) (arg1 : Memref sig .tc .vmem S128x256 .f32) (harg1 : arg1.IsWhole)
  (arg2 : Memref sig .tc .vmem S1x1 .f32) (harg2 : arg2.IsWhole) (arg3 : Memref sig .tc .vmem S256x8192 .f32) (harg3 : arg3.IsWhole)
  (arg4 : Memref sig .tc .vmem S1x8192 .f32) (harg4 : arg4.IsWhole) (arg5 : Memref sig .tc .vmem S8192x256 .f32) (harg5 : arg5.IsWhole)
  (arg6 : Memref sig .tc .vmem S1x256 .f32) (harg6 : arg6.IsWhole) (arg7 : Memref sig .tc .vmem S1x256 .f32) (harg7 : arg7.IsWhole)
  (arg8 : Memref sig .tc .vmem S1x256 .f32) (harg8 : arg8.IsWhole) (arg9 : Memref sig .tc .vmem S1x256 .f32) (harg9 : arg9.IsWhole)
  (arg10 : Memref sig .tc .vmem S1x256 .f32) (harg10 : arg10.IsWhole) (arg11 : Memref sig .tc .vmem S128x64x128 .f32)
  (harg11 : arg11.IsWhole) (arg12 : Memref sig .tc .vmem S128x256 .f32) (harg12 : arg12.IsWhole)
  (arg13 : Memref sig .tc .vmem S128x8192 .f32) (harg13 : arg13.IsWhole)
  (x0 : Vec Ideal S128x256 .f32) (x1 : Vec Ideal S1x1 .f32) (x2 : Vec Ideal S256x8192 .f32) (x3 : Vec Ideal S1x8192 .f32)
  (x4 : Vec Ideal S8192x256 .f32) (x5 x6 x7 x8 x9 : Vec Ideal S1x256 .f32) (x10 : Vec Ideal S128x64x128 .f32)

theorem zero2 : (![0, 0] : Fin 2 → ℕ) = fun _ => 0 := funext fun a => by fin_cases a <;> rfl
theorem zero3 : (![0, 0, 0] : Fin 3 → ℕ) = fun _ => 0 := funext fun a => by fin_cases a <;> rfl

/-- The perturbed logits the run holds are those of the blocks it was given. -/
theorem run_noisy : kernelRun0_A.sl.r_2 (F := Ideal) c arg1 harg1 arg2 harg2 arg3 harg3 arg4 harg4 arg7 harg7 arg8 harg8 arg11 harg11
    x0 x1 x2 x3 x6 x7 x10 = noisy x0 x1 x2 x3 x6 x7 x10 := by
  unfold kernelRun0_A.sl.r_2 kernelRun0_A.sl.r kernelRun0_A.sl.r_1 noisy
  simp only [View.readAt_eq_ld, Memref.IsWhole.read_unread, View.ld_unit_zero (S := S128x256) zero2,
    View.ld_unit_zero (S := S1x1) zero2, View.ld_unit_zero (S := S256x8192) zero2, View.ld_unit_zero (S := S1x8192) zero2,
    View.ld_unit_zero (S := S1x256) zero2, View.ld_unit_zero (S := S128x64x128) zero3]

/-- The 64 stores of the codes are columns of one function. -/
theorem pieces : View.PiecesOf (codes (noisy x0 x1 x2 x3 x6 x7 x10)) (kernelRun0_A.sl.H12_64 (F := Ideal) c arg1 harg1 arg2 harg2
    arg3 harg3 arg4 harg4 arg7 harg7 arg8 harg8 arg11 harg11 x0 x1 x2 x3 x6 x7 x10) := by
  rw [← run_noisy c arg1 harg1 arg2 harg2 arg3 harg3 arg4 harg4 arg7 harg7 arg8 harg8 arg11 harg11 x0 x1 x2 x3 x6 x7 x10]
  unfold kernelRun0_A.sl.H12_64
  repeat' first | exact trivial | refine ⟨piece _ _ rfl _ (by decide), ?_⟩

/-- The codes a grid point leaves. -/
theorem out12 : out0_A_12 (F := Ideal) c i arg1 harg1 arg2 harg2 arg3 harg3 arg4 harg4 arg5 harg5 arg6 harg6 arg7 harg7 arg8 harg8
    arg9 harg9 arg10 harg10 arg11 harg11 arg12 harg12 arg13 harg13 x0 x1 x2 x3 x4 x5 x6 x7 x8 x9 x10 =
      codes (noisy x0 x1 x2 x3 x6 x7 x10) := by
  funext y
  have hc := cover0_A_12 (F := Ideal) c i arg1 harg1 arg2 harg2 arg3 harg3 arg4 harg4 arg5 harg5 arg6 harg6 arg7 harg7 arg8 harg8
    arg9 harg9 arg10 harg10 arg11 harg11 arg12 harg12 arg13 harg13 x0 x1 x2 x3 x4 x5 x6 x7 x8 x9 x10 y
  unfold out0_A_12
  rw [View.read_writes_junk_eq_canon]
  unfold kernelRun0_A at hc ⊢
  dsimp only at hc ⊢
  rw [← List.append_nil (kernelRun0_A.sl.H12_64 _ _ _ _ _ _ _ _ _ _ _ _ _ _ _ _ _ _ _ _ _ _)]
  exact View.canon_append_of_piecesOf _ [] _ (pieces ..) y hc

/-- The result a grid point leaves: the decoder applied to the codes. -/
theorem out11 : out0_A_11 (F := Ideal) c i arg1 harg1 arg2 harg2 arg3 harg3 arg4 harg4 arg5 harg5 arg6 harg6 arg7 harg7 arg8 harg8
    arg9 harg9 arg10 harg10 arg11 harg11 arg12 harg12 arg13 harg13 x0 x1 x2 x3 x4 x5 x6 x7 x8 x9 x10 =
      k0_pay1 (k0_pay70 (codes (noisy x0 x1 x2 x3 x6 x7 x10))) (k0_pay71 x4) x5 x9 x8 := by
  have hcodes : View.canon (kernelRun0_A.sl.H12_64 (F := Ideal) c arg1 harg1 arg2 harg2
    arg3 harg3 arg4 harg4 arg7 harg7 arg8 harg8 arg11 harg11 x0 x1 x2 x3 x6 x7 x10) = codes (noisy x0 x1 x2 x3 x6 x7 x10) := by
    rw [← out12 c i arg1 harg1 arg2 harg2 arg3 harg3 arg4 harg4 arg5 harg5 arg6 harg6 arg7 harg7 arg8 harg8
      arg9 harg9 arg10 harg10 arg11 harg11 arg12 harg12 arg13 harg13 x0 x1 x2 x3 x4 x5 x6 x7 x8 x9 x10]
    unfold out0_A_12
    rw [View.read_writes_junk_eq_canon]
    unfold kernelRun0_A
    rfl
  unfold out0_A_11
  rw [View.read_writes_junk_eq_canon]
  unfold kernelRun0_A
  dsimp only
  rw [View.canon_unit_zero zero2]
  unfold kernelRun0_A.sl.r_15 kernelRun0_A.sl.v551 kernelRun0_A.sl.r_16
  simp only [View.readAt_eq_ld, View.readCov_eq_canon', Memref.IsWhole.read_unread, hcodes,
    View.ld_unit_zero (S := S1x256) zero2, View.ld_unit_zero (S := S8192x256) zero2]
  have hq := View.ld_unit_zero (Val := Elt Ideal) (e := .f32) (S := S128x8192) zero2 inb_S128x8192_S128x8192_0_0
    (codes (noisy x0 x1 x2 x3 x6 x7 x10))
  exact congrArg (fun q => k0_pay1 (k0_pay70 q) (k0_pay71 x4) x5 x9 x8) hq

end

end Cert.Proof.Ker

end
-- ==== Proof.KernelArray.lean ====
/- What the two result arrays hold after the run: at each index the kernel's arithmetic over the argument arrays. -/
module

public import proofs.«01_k».proof.Proof.KernelCodes
public import Idealize.ShloMosaic.Lib.Pipeline.ValueKit

@[expose] public section

noncomputable section

namespace Cert.Proof.Ker

open Cert.KernelIdeal Cert.KernelIdeal.Gen Idealize.ShloMosaic Idealize.ShloMosaic.TcCoe

/-- Column `l` as a place in its group, and as a group. -/
def groupOf (l : Fin 8192) : Fin 64 := ⟨l.val / 128, by omega⟩
def placeOf (l : Fin 8192) : Fin 128 := ⟨l.val % 128, by omega⟩

/-- The noise that the kernel adds to a logit: `k` the sharpness, `n` the uniform noise. -/
def noiseTerm (k n : EReal) : EReal :=
  Named.named (F := Ideal) κ "neg_ln2" (φ := .f32) 0xBF317218#32 *
    (Ideal.log (Named.named (F := Ideal) κ "neg_ln2" (φ := .f32) 0xBF317218#32 *
      (Ideal.log (k * n + (k * Ideal.ofBits .f32 0xBF000000#32 + Named.named (F := Ideal) κ "half_plus_eps" (φ := .f32) 0x3F000000#32))
        * Named.named (F := Ideal) κ "inv_ln2" (φ := .f32) 0x3FB8AA3B#32) + Ideal.ofBits .f32 0x1E3CE508#32)
      * Named.named (F := Ideal) κ "inv_ln2" (φ := .f32) 0x3FB8AA3B#32)

/-- One block's perturbed logits at an index. -/
theorem noisy_apply (x0 : FVec Ideal S128x256 .f32) (x1 : FVec Ideal S1x1 .f32) (x2 : FVec Ideal S256x8192 .f32)
    (x3 : FVec Ideal S1x8192 .f32) (x6 x7 : FVec Ideal S1x256 .f32) (x10 : FVec Ideal S128x64x128 .f32) (r : Fin 128) (l : Fin 8192) :
    noisy x0 x1 x2 x3 x6 x7 x10 (ix2 r l) =
      ∑ x, Ideal.div (x0 (ix2 r x) - x6 (ix2 0 x)) (x7 (ix2 0 x)) * x2 (ix2 x l) + x3 (ix2 0 l)
        + noiseTerm (x1 (ix2 0 0)) (x10 (ix3 r (groupOf l) (placeOf l))) := by
  unfold noiseTerm groupOf placeOf
  pointwise [noisy, k0_pay5, k0_pay2, k0_pay3, k0_pay4]

/-- One block's result at an index. -/
theorem decode_apply (q : FVec Ideal S128x8192 .f32) (w : FVec Ideal S8192x256 .f32) (b s e : FVec Ideal S1x256 .f32)
    (r : Fin 128) (j : Fin 256) :
    k0_pay1 (F := Ideal) (k0_pay70 q) (k0_pay71 w) b s e (ix2 r j) =
      (∑ x, q (ix2 r x) * w (ix2 x j) + b (ix2 0 j)) * s (ix2 0 j) + e (ix2 0 j) := by
  pointwise [k0_pay1, k0_pay70, k0_pay71]

/-- The perturbed logit that the kernel computes at row `r` and column `l`, over the argument arrays. -/
def pert (x : FVec Ideal S4096x256 .f32) (k : FVec Ideal S1 .f32) (we : FVec Ideal S256x8192 .f32) (be : FVec Ideal S8192 .f32)
    (xm xs : FVec Ideal S256 .f32) (noise : FVec Ideal S1x4096x64x128 .f32) (r : Fin 4096) (l : Fin 8192) : EReal :=
  ∑ i, Ideal.div (x (ix2 r i) - xm (ix1 i)) (xs (ix1 i)) * we (ix2 i l) + be (ix1 l)
    + noiseTerm (k (ix1 0)) (noise (ix4 0 r (groupOf l) (placeOf l)))

/-- The code at row `r` and column `l` of perturbed logits `a`. -/
def hot (a : Fin 4096 → Fin 8192 → EReal) (r : Fin 4096) (l : Fin 8192) : EReal :=
  asNumber (decide (a r l = Finset.fold max (Ideal.ofBits .f32 0xFF800000#32) (fun x => a r (inGroup l x)) Finset.univ))

/-- The decoded result of a code. -/
def decode (q : Fin 4096 → Fin 8192 → EReal) (wd : FVec Ideal S8192x256 .f32) (bd ym ys : FVec Ideal S256 .f32)
    (r : Fin 4096) (j : Fin 256) : EReal :=
  (∑ x, q r x * wd (ix2 x j) + bd (ix1 j)) * ys (ix1 j) + ym (ix1 j)

variable (m : (ℓ : Loc nD τ sig) → Buf (Elt Ideal) ℓ) (c : Dev nD)

/-- The contents of a buffer at the launch. -/
abbrev at0 (b : Ref sig .tc) := m ((c : Thread nD τ).loc b)

/-- The array's row that a block's row is. -/
def row (t : Fin cfg0.N) (r : Fin 128) : Fin 4096 := ⟨t.val * 128 + r.val, by have : t.val < 32 := t.isLt; omega⟩

/-- The windows' block indices. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0, 0]
    ∧ win0_11.index t = ![t.val, 0] ∧ win0_12.index t = ![t.val, 0] := by decide +kernel

variable (t : Fin cfg0.N) (r : Fin 128)

theorem read0 (x : Fin 256) : iblk m c 0 t (ix2 r x) = at0 m c main_arg0 (ix2 (row t r) x) := by
  blk_ext! [iblk, V_main_arg0 m c, row, idx t]
theorem read1 : iblk m c 1 t (ix2 0 0) = at0 m c main_arg1 (ix1 0) := by
  blk_ext! [iblk, row, idx t]
theorem read2 (x : Fin 256) (l : Fin 8192) : iblk m c 2 t (ix2 x l) = at0 m c main_arg2 (ix2 x l) := by
  blk_ext! [iblk, V_main_arg2 m c, idx t]
theorem read3 (l : Fin 8192) : iblk m c 3 t (ix2 0 l) = at0 m c main_arg3 (ix1 l) := by
  blk_ext! [iblk, idx t]
theorem read4 (x : Fin 8192) (j : Fin 256) : iblk m c 4 t (ix2 x j) = at0 m c main_arg4 (ix2 x j) := by
  blk_ext! [iblk, V_main_arg4 m c, idx t]
theorem read5 (j : Fin 256) : iblk m c 5 t (ix2 0 j) = at0 m c main_arg5 (ix1 j) := by
  blk_ext! [iblk, idx t]
theorem read6 (j : Fin 256) : iblk m c 6 t (ix2 0 j) = at0 m c main_arg6 (ix1 j) := by
  blk_ext! [iblk, idx t]
theorem read7 (j : Fin 256) : iblk m c 7 t (ix2 0 j) = at0 m c main_arg7 (ix1 j) := by
  blk_ext! [iblk, idx t]
theorem read8 (j : Fin 256) : iblk m c 8 t (ix2 0 j) = at0 m c main_arg8 (ix1 j) := by
  blk_ext! [iblk, idx t]
theorem read9 (j : Fin 256) : iblk m c 9 t (ix2 0 j) = at0 m c main_arg9 (ix1 j) := by
  blk_ext! [iblk, idx t]
theorem read10 (x : Fin 64) (d : Fin 128) : iblk m c 10 t (ix3 r x d) = at0 m c main_arg10 (ix4 0 (row t r) x d) := by
  blk_ext! [iblk, row, idx t]

/-- The perturbed logits of the launch's arguments. -/
def pertAt : Fin 4096 → Fin 8192 → EReal :=
  pert (at0 m c main_arg0) (at0 m c main_arg1) (at0 m c main_arg2) (at0 m c main_arg3) (at0 m c main_arg6)
    (at0 m c main_arg7) (at0 m c main_arg10)

/-- The perturbed logits of the blocks of one point. -/
def noisyAt : FVec Ideal S128x8192 .f32 :=
  noisy (iblk m c 0 t) (iblk m c 1 t) (iblk m c 2 t) (iblk m c 3 t) (iblk m c 6 t) (iblk m c 7 t) (iblk m c 10 t)

theorem noisyAt_apply (l : Fin 8192) : noisyAt m c t (ix2 r l) = pertAt m c (row t r) l := by
  unfold noisyAt pertAt pert
  refine (noisy_apply _ _ _ _ _ _ _ r l).trans ?_
  rw [read1, read3, read10]
  refine congrArg (· + _) (congrArg (· + _) (Finset.sum_congr rfl fun x _ => ?_))
  rw [read0, read2, read6, read7]

/-- One point's codes at an index. -/
theorem codesAt_apply (l : Fin 8192) : codes (noisyAt m c t) (ix2 r l) = hot (pertAt m c) (row t r) l := by
  show codeAt (noisyAt m c t) r l = _
  unfold codeAt hot
  simp only [noisyAt_apply]

/-- One point's result at an index. -/
theorem resultAt_apply (j : Fin 256) :
    k0_pay1 (F := Ideal) (k0_pay70 (codes (noisyAt m c t))) (k0_pay71 (iblk m c 4 t)) (iblk m c 5 t) (iblk m c 9 t) (iblk m c 8 t) (ix2 r j)
      = decode (hot (pertAt m c)) (at0 m c main_arg4) (at0 m c main_arg5) (at0 m c main_arg8) (at0 m c main_arg9) (row t r) j := by
  unfold decode
  refine (decode_apply _ _ _ _ _ r j).trans ?_
  refine congrArg₂ (· + ·) (congrArg₂ (· * ·) (congrArg₂ (· + ·) (Finset.sum_congr rfl fun x _ => ?_) (read5 m c t j))
    (read9 m c t j)) (read8 m c t j)
  exact congrArg₂ (· * ·) (codesAt_apply m c t r x) (read4 m c t x j)

/-- Where a place of a block of the codes lies in their array. -/
theorem emb12 (l : Fin 8192) : ((cfg0.win 12).blk t).view.emb (ix2 r l) = ix2 (row t r) l := by
  have e : win0_12.index t = ![t.val, 0] := (idx t).2.2.2.2.2.2.2.2.2.2.2.2
  have e0 : win0_12.index t (0 : Fin 2) = t.val := congrFun e 0
  have e1 : win0_12.index t (1 : Fin 2) = 0 := congrFun e 1
  funext a; apply Fin.ext
  match a with
  | ⟨0, _⟩ => show win0_12.index t (0 : Fin 2) * 128 + 1 * r.val = t.val * 128 + r.val; omega
  | ⟨1, _⟩ => show win0_12.index t (1 : Fin 2) * 8192 + 1 * l.val = l.val; omega

/-- Where a place of a block of the results lies in their array. -/
theorem emb11 (j : Fin 256) : ((cfg0.win 11).blk t).view.emb (ix2 r j) = ix2 (row t r) j := by
  have e : win0_11.index t = ![t.val, 0] := (idx t).2.2.2.2.2.2.2.2.2.2.2.1
  have e0 : win0_11.index t (0 : Fin 2) = t.val := congrFun e 0
  have e1 : win0_11.index t (1 : Fin 2) = 0 := congrFun e 1
  funext a; apply Fin.ext
  match a with
  | ⟨0, _⟩ => show win0_11.index t (0 : Fin 2) * 128 + 1 * r.val = t.val * 128 + r.val; omega
  | ⟨1, _⟩ => show win0_11.index t (1 : Fin 2) * 256 + 1 * j.val = j.val; omega

/-- The codes and the results as arrays. -/
def codeArr : FVec Ideal S4096x8192 .f32 := fun i => hot (pertAt m c) (i 0) (i 1)
def resultArr : FVec Ideal S4096x256 .f32 := fun i => decode (hot (pertAt m c)) (at0 m c main_arg4) (at0 m c main_arg5)
  (at0 m c main_arg8) (at0 m c main_arg9) (i 0) (i 1)

/-- The array of codes after the run. -/
theorem final12 : (dats m 0 c).arrAt 12 cfg0.N = codeArr m c := by
  refine (dats m 0 c).arrAt_eq_of_covers 12 _ (by decide +kernel) fun t hf y => ?_
  obtain ⟨r, l, rfl⟩ : ∃ (r : Fin 128) (l : Fin 8192), y = ix2 r l := ⟨y 0, y 1, funext fun b => by fin_cases b <;> rfl⟩
  rw [after0_12, emb12]
  refine Eq.trans ?_ (codesAt_apply m c t r l)
  blk_simp
  unfold outsAt0
  dsimp only
  rw [out12]
  rfl

/-- The array of results after the run. -/
theorem final11 : (dats m 0 c).arrAt 11 cfg0.N = resultArr m c := by
  refine (dats m 0 c).arrAt_eq_of_covers 11 _ (by decide +kernel) fun t hf y => ?_
  obtain ⟨r, j, rfl⟩ : ∃ (r : Fin 128) (j : Fin 256), y = ix2 r j := ⟨y 0, y 1, funext fun b => by fin_cases b <;> rfl⟩
  rw [after0_11, emb11]
  refine Eq.trans ?_ (resultAt_apply m c t r j)
  blk_simp
  unfold outsAt0
  dsimp only
  rw [out11]
  rfl

end Cert.Proof.Ker

end
-- ==== Proof.Consts.lean ====
/- The constants the two programs spell, as extended reals: the halves, the small number added under each logarithm,
   minus infinity, and the three constants named in the kernel. -/
module

public import proofs.«01_k».proof.KernelIdeal
public import Idealize.ShloMosaic.PureOps.Ideal

@[expose] public section

noncomputable section

namespace Cert.Proof

open Idealize.ShloMosaic

/-- The small number added under each logarithm. -/
def tiny : ℝ := 1547425 / 2 ^ 87

/-- The pattern of one half. -/
theorem bits_half : Ideal.ofBits .f32 0x3F000000#32 = ((1 / 2 : ℝ) : EReal) := by
  simp [Ideal.ofBits, Ideal.ieee, -EReal.coe_mul]; norm_num

/-- The pattern of minus one half. -/
theorem bits_neg_half : Ideal.ofBits .f32 0xBF000000#32 = ((-(1 / 2) : ℝ) : EReal) := by
  simp [Ideal.ofBits, Ideal.ieee, -EReal.coe_mul]; norm_num

/-- The pattern of the small number. -/
theorem bits_tiny : Ideal.ofBits .f32 0x1E3CE508#32 = ((tiny : ℝ) : EReal) := by
  unfold tiny
  simp [Ideal.ofBits, Ideal.ieee, -EReal.coe_mul]; norm_num

/-- The pattern of minus infinity. -/
theorem bits_bot : Ideal.ofBits .f32 0xFF800000#32 = ⊥ := by
  simp [Ideal.ofBits, Ideal.ieee]

/-- The pattern of infinity. -/
theorem bits_top : Ideal.ofBits .f32 0x7F800000#32 = ⊤ := by
  simp [Ideal.ofBits, Ideal.ieee]

/-- The constant named `half_plus_eps` is one half more than the small number. -/
theorem named_half : Named.named (F := Ideal) KernelIdeal.κ "half_plus_eps" (φ := .f32) 0x3F000000#32
    = ((1 / 2 + tiny : ℝ) : EReal) := by
  show ((77371252455336267182742689 / 154742504910672534362390528 : ℝ) : EReal) = _
  unfold tiny
  congr 1; norm_num

/-- The constant named `inv_ln2` is the inverse of the logarithm of two. -/
theorem named_inv : Named.named (F := Ideal) KernelIdeal.κ "inv_ln2" (φ := .f32) 0x3FB8AA3B#32
    = (((Real.log 2)⁻¹ : ℝ) : EReal) := rfl

/-- The constant named `neg_ln2` is the negative of the logarithm of two. -/
theorem named_neg : Named.named (F := Ideal) KernelIdeal.κ "neg_ln2" (φ := .f32) 0xBF317218#32
    = ((-(Real.log 2) : ℝ) : EReal) := rfl

end Cert.Proof

end
-- ==== Proof.Scalar.lean ====
/- The arithmetic of one element and of one row of 128: the kernel's folded forms against the plain ones, and what the
   softmax of a row with one largest element is. -/
module

public import proofs.«01_k».proof.Proof.Consts

@[expose] public section

noncomputable section

namespace Cert.Proof

open Idealize.ShloMosaic

/-- Scaled, shifted noise: the shift folded into one constant, for a real scale. -/
theorem fold_shift (κ : ℝ) (n : EReal) :
    (κ : EReal) * n + ((κ : EReal) * ((-(1 / 2) : ℝ) : EReal) + ((1 / 2 + tiny : ℝ) : EReal))
      = (κ : EReal) * (n - ((1 / 2 : ℝ) : EReal)) + ((1 / 2 : ℝ) : EReal) + (tiny : EReal) := by
  induction n with
  | bot =>
    rw [EReal.bot_sub]
    rcases lt_trichotomy κ 0 with h | h | h
    · rw [EReal.coe_mul_bot_of_neg h, ← EReal.coe_mul, ← EReal.coe_add, EReal.top_add_coe, EReal.top_add_coe, EReal.top_add_coe]
    · subst h
      simp only [EReal.coe_zero, zero_mul, zero_add]
      rw [← EReal.coe_add]
    · rw [EReal.coe_mul_bot_of_pos h]
      simp only [EReal.bot_add]
  | top =>
    rw [EReal.top_sub_coe]
    rcases lt_trichotomy κ 0 with h | h | h
    · rw [EReal.coe_mul_top_of_neg h]
      simp only [EReal.bot_add]
    · subst h
      simp only [EReal.coe_zero, zero_mul, zero_add]
      rw [← EReal.coe_add]
    · rw [EReal.coe_mul_top_of_pos h, ← EReal.coe_mul, ← EReal.coe_add, EReal.top_add_coe, EReal.top_add_coe, EReal.top_add_coe]
  | coe n =>
    rw [← EReal.coe_sub]
    simp only [← EReal.coe_mul, ← EReal.coe_add]
    congr 1; ring

/-- A logarithm taken to base two and scaled by minus the logarithm of two is the logarithm negated. -/
theorem neg_log_two (x : EReal) :
    ((-(Real.log 2) : ℝ) : EReal) * (x * (((Real.log 2)⁻¹ : ℝ) : EReal)) = -x := by
  have h : 0 < Real.log 2 := Real.log_pos (by norm_num)
  have h' : -Real.log 2 < 0 := by linarith
  induction x with
  | bot => rw [EReal.bot_mul_coe_of_pos (inv_pos.2 h), EReal.coe_mul_bot_of_neg h', EReal.neg_bot]
  | top => rw [EReal.top_mul_coe_of_pos (inv_pos.2 h), EReal.coe_mul_top_of_neg h', EReal.neg_top]
  | coe x =>
    rw [← EReal.coe_mul, ← EReal.coe_mul, ← EReal.coe_neg]
    congr 1; field_simp

/-- A quotient by one. -/
theorem div_one' (x : EReal) : Ideal.div x 1 = x := by
  unfold Ideal.div
  rw [if_neg one_ne_zero, inv_one, mul_one]

/-- The largest of a row. -/
def top (b : Fin 128 → EReal) : EReal := Finset.univ.fold max ⊥ b

theorem le_top (b : Fin 128 → EReal) (d : Fin 128) : b d ≤ top b := by
  unfold top
  rw [Finset.le_fold_max]
  exact .inr ⟨d, Finset.mem_univ _, le_rfl⟩

/-- An element of a row's softmax, as the reference computes it. -/
def share (b : Fin 128 → EReal) (d : Fin 128) : EReal :=
  Ideal.div (Ideal.exp (b d - top b)) (∑ x, Ideal.exp (b x - top b))

/-- A sum of reals, as an extended real. -/
theorem real_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- In a row whose largest element is real and stands once, the softmax is real everywhere and is greatest exactly at
    that element. -/
theorem share_of_one (b : Fin 128 → EReal) (d₀ : Fin 128) (hlt : top b < ⊤) (h₀ : b d₀ = top b)
    (hone : ∀ d, b d = top b → d = d₀) :
    ∃ y : Fin 128 → ℝ, (∀ d, share b d = (y d : EReal)) ∧ ∀ d, d ≠ d₀ → y d < y d₀ := by
  have hbot : top b ≠ ⊥ := by
    intro h
    have e : ∀ d, b d = top b := fun d => le_antisymm (le_top b d) (h ▸ bot_le)
    have := (hone 0 (e 0)).trans (hone 1 (e 1)).symm
    exact absurd this (by decide)
  obtain ⟨μ, hμ⟩ : ∃ μ : ℝ, top b = (μ : EReal) := ⟨(top b).toReal, (EReal.coe_toReal hlt.ne hbot).symm⟩
  have hex : ∀ d, ∃ ρ : ℝ, Ideal.exp (b d - top b) = (ρ : EReal) ∧ 0 ≤ ρ ∧ (d = d₀ → ρ = 1) ∧ (d ≠ d₀ → ρ < 1) := by
    intro d
    have hle := le_top b d
    rw [hμ] at hle
    rcases eq_or_ne d d₀ with hd | hd
    · refine ⟨1, ?_, zero_le_one, fun _ => rfl, fun h => absurd hd h⟩
      rw [hd, h₀, hμ, ← EReal.coe_sub, sub_self]
      show ((Real.exp 0 : ℝ) : EReal) = _
      rw [Real.exp_zero]
    · have hne : b d ≠ μ := fun h => hd (hone d (h.trans hμ.symm))
      have hl : b d < μ := lt_of_le_of_ne hle hne
      rw [hμ]
      generalize b d = β at hl
      induction β with
      | bot => exact ⟨0, by rw [EReal.bot_sub]; rfl, le_rfl, fun h => absurd h hd, fun _ => zero_lt_one⟩
      | top => exact absurd hl (not_lt.2 _root_.le_top)
      | coe β =>
        refine ⟨Real.exp (β - μ), by rw [← EReal.coe_sub]; rfl, (Real.exp_pos _).le, fun h => absurd h hd, fun _ => ?_⟩
        have hn : β - μ < 0 := by
          have := EReal.coe_lt_coe_iff.1 hl
          linarith
        have := Real.exp_lt_exp.2 hn
        rwa [Real.exp_zero] at this
  choose ρ hρ hnn hat hoff using hex
  have hsum : ∑ x, Ideal.exp (b x - top b) = ((∑ x, ρ x : ℝ) : EReal) := by
    rw [Finset.sum_congr rfl fun x _ => hρ x]
    exact (real_sum _ _).symm
  have hpos : 0 < ∑ x, ρ x := by
    have h1 : ρ d₀ ≤ ∑ x, ρ x := Finset.single_le_sum (fun i _ => hnn i) (Finset.mem_univ d₀)
    rw [hat d₀ rfl] at h1
    linarith
  refine ⟨fun d => ρ d * (∑ x, ρ x)⁻¹, fun d => ?_, fun d hd => ?_⟩
  · unfold share Ideal.div
    rw [hsum, hρ d, if_neg (by exact_mod_cast hpos.ne'), ← EReal.coe_inv, ← EReal.coe_mul]
  · show ρ d * _ < ρ d₀ * _
    rw [hat d₀ rfl]
    exact mul_lt_mul_of_pos_right (hoff d hd) (inv_pos.2 hpos)

/-- A real taken away and put back. -/
theorem sub_add_real (x : EReal) (y : ℝ) : x - (y : EReal) + (y : EReal) = x := by
  induction x with
  | bot => rw [EReal.bot_sub, EReal.bot_add]
  | top => rw [EReal.top_sub_coe, EReal.top_add_coe]
  | coe x => rw [← EReal.coe_sub, ← EReal.coe_add, sub_add_cancel]

end Cert.Proof

end
-- ==== Proof.ArgMax.lean ====
/- The index the reference's arg-max gives for a row with one greatest element above minus infinity. -/
module

public import proofs.«01_k».proof.Proof.RefTerms
public import proofs.«01_k».proof.Proof.Scalar
public import Idealize.ShloMosaic.Lib.Pointwise

@[expose] public section

noncomputable section

namespace Cert.Proof.Ref

open Cert.ReferenceIdeal Cert.ReferenceIdeal.Facts₀ Idealize.ShloMosaic

/-- A set bit or any bit is set. -/
theorem one_or (b : BitVec 1) : 1#1 ||| b = 1#1 := by
  revert b; decide

/-- One step of the arg-max keeps the pair with the greater value, or the pair itself against itself. -/
theorem step_keep (p a : EReal × BitVec 32) (h : a = p ∨ a.1 < p.1) :
    reducer_argmax_f32_i32 (F := Ideal) p a = p := by
  rcases h with h | h
  · subst h
    unfold reducer_argmax_f32_i32
    simp [Ideal.cmpf_def, Ideal.cmp, IntOp.ori, IntOp.andi, IntOp.cmpi, Scalar.select]
  · unfold reducer_argmax_f32_i32
    have e : BitVec.ofBool (decide (a.1 < p.1)) = 1#1 := by rw [decide_eq_true h]; rfl
    simp [Ideal.cmpf_def, Ideal.cmp, IntOp.ori, IntOp.andi, IntOp.cmpi, Scalar.select, e, one_or]

/-- One step of the arg-max takes the pair with the greater value. -/
theorem step_take (p a : EReal × BitVec 32) (h : a.1 < p.1) :
    reducer_argmax_f32_i32 (F := Ideal) a p = p := by
  unfold reducer_argmax_f32_i32
  have e : BitVec.ofBool (decide (p.1 < a.1)) = 0#1 := by rw [decide_eq_false (not_lt.2 h.le)]; rfl
  simp [Ideal.cmpf_def, Ideal.cmp, IntOp.ori, IntOp.andi, IntOp.cmpi, Scalar.select, h.ne, e]

/-- One step of the arg-max between two lesser values stays lesser. -/
theorem step_less (y : EReal) (a b : EReal × BitVec 32) (ha : a.1 < y) (hb : b.1 < y) :
    (reducer_argmax_f32_i32 (F := Ideal) a b).1 < y := by
  unfold reducer_argmax_f32_i32
  simp only [Scalar.select]
  split
  · exact ha
  · exact hb

/-- The fold of the arg-max over a list that holds one pair of greatest value is that pair. -/
theorem fold_argmax (p : EReal × BitVec 32) (L : List (EReal × BitVec 32)) (hL : ∀ q ∈ L, q = p ∨ q.1 < p.1)
    (a : EReal × BitVec 32) (ha : a = p ∨ (a.1 < p.1 ∧ p ∈ L)) :
    L.foldl (reducer_argmax_f32_i32 (F := Ideal)) a = p := by
  induction L generalizing a with
  | nil => simpa using ha
  | cons q L ih =>
    rw [List.foldl_cons]
    have hL' : ∀ q ∈ L, q = p ∨ q.1 < p.1 := fun q h => hL q (List.mem_cons_of_mem _ h)
    refine ih hL' _ ?_
    have hq := hL q List.mem_cons_self
    rcases ha with rfl | ⟨ha, hm⟩
    · exact .inl (step_keep _ _ hq)
    · rcases hq with rfl | hq
      · exact .inl (step_take _ _ ha)
      · refine .inr ⟨step_less _ _ _ ha hq, ?_⟩
        rcases List.mem_cons.1 hm with rfl | hm
        · exact absurd hq (lt_irrefl _)
        · exact hm

/-- The indices that drop to row `(0, r, c)` are those of its 128 elements. -/
theorem drop_iff (r : Fin 4096) (c : Fin 64) (i : S1x4096x64x128.Idx) :
    reducesTo_S1x4096x64x128_S1x4096x64_d3.drop i = ix3 0 r c ↔ i = ix4 0 r c (i 3) := by
  have h0 : (reducesTo_S1x4096x64x128_S1x4096x64_d3.drop i 0 : Nat) = i 0 :=
    Shape.ReducesTo.drop_apply_val_of_eq _ i 0 0
  have h1 : (reducesTo_S1x4096x64x128_S1x4096x64_d3.drop i 1 : Nat) = i 1 :=
    Shape.ReducesTo.drop_apply_val_of_eq _ i 1 1
  have h2 : (reducesTo_S1x4096x64x128_S1x4096x64_d3.drop i 2 : Nat) = i 2 :=
    Shape.ReducesTo.drop_apply_val_of_eq _ i 2 2
  constructor
  · intro h
    rw [h] at h0 h1 h2
    funext a
    match a with
    | ⟨0, _⟩ => exact Fin.ext h0.symm
    | ⟨1, _⟩ => exact Fin.ext h1.symm
    | ⟨2, _⟩ => exact Fin.ext h2.symm
    | ⟨3, _⟩ => rfl
  · intro h
    have e0 : (i 0).val = 0 := congrArg (fun k : S1x4096x64x128.Idx => (k 0).val) h
    have e1 : (i 1).val = r.val := congrArg (fun k : S1x4096x64x128.Idx => (k 1).val) h
    have e2 : (i 2).val = c.val := congrArg (fun k : S1x4096x64x128.Idx => (k 2).val) h
    funext a
    match a with
    | ⟨0, _⟩ => exact Fin.ext (h0.trans e0)
    | ⟨1, _⟩ => exact Fin.ext (h1.trans e1)
    | ⟨2, _⟩ => exact Fin.ext (h2.trans e2)

/-- The pairs the arg-max folds over are those of the indices that drop to the result's. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, ?_⟩, ?_⟩
    · rw [Equiv.symm_apply_apply]
      exact decide_eq_true hi
    · rw [Equiv.symm_apply_apply]

/-- The arg-max's fold, at one result index, where one pair is of greatest value. -/
theorem argReduce_of_one {s t u : Shape} {axes : List (Fin s.rank)} (x : FVec Ideal s .f32) (y : s.Idx → BitVec 32)
    (ix : FVec Ideal u .f32) (iy : u.Idx → BitVec 32) (h : s.ReducesTo axes t) (hu : 0 < u.numel) (j : t.Idx) (i₀ : s.Idx)
    (hi : h.drop i₀ = j) (hbot : ix (Shape.Idx.first hu) < x i₀)
    (hgt : ∀ i, h.drop i = j → i = i₀ ∨ x i < x i₀) :
    Host.argReduce (reducer_argmax_f32_i32 (F := Ideal)) x y ix iy h hu j = (x i₀, y i₀) := by
  rw [Ideal.argReduce_eq_reduce2, Host.reduce2_eq_foldl_fiber]
  refine fold_argmax _ _ (fun q hq => ?_) _ (.inr ⟨hbot, (mem_fiber _ _ _ _ _).2 ⟨i₀, hi, rfl⟩⟩)
  obtain ⟨i, hd, rfl⟩ := (mem_fiber _ _ _ _ _).1 hq
  rcases hgt i hd with rfl | hl
  · exact .inl rfl
  · exact .inr hl

/-- So its index is that pair's. -/
theorem argIdx_of_one {s t u : Shape} {axes : List (Fin s.rank)} (x : FVec Ideal s .f32) (y : s.Idx → BitVec 32)
    (ix : FVec Ideal u .f32) (iy : u.Idx → BitVec 32) (h : s.ReducesTo axes t) (hu : 0 < u.numel) (j : t.Idx) (i₀ : s.Idx)
    (hi : h.drop i₀ = j) (hbot : ix (Shape.Idx.first hu) < x i₀)
    (hgt : ∀ i, h.drop i = j → i = i₀ ∨ x i < x i₀) :
    argIdx (reducer_argmax_f32_i32 (F := Ideal)) x y ix iy h hu j = y i₀ :=
  congrArg Prod.snd (argReduce_of_one x y ix iy h hu j i₀ hi hbot hgt)

/-- The index the reference finds in a row that has one greatest element, above minus infinity. -/
theorem winner_apply (y : FVec Ideal S1x4096x64x128 .f32) (r : Fin 4096) (c : Fin 64) (d₀ : Fin 128)
    (hbot : ⊥ < y (ix4 0 r c d₀)) (hgt : ∀ d, d ≠ d₀ → y (ix4 0 r c d) < y (ix4 0 r c d₀)) :
    winner y (ix3 0 r c) = BitVec.ofNat 32 d₀ := by
  unfold winner
  rw [argIdx_of_one y _ _ _ _ _ _ (ix4 0 r c d₀) ((drop_iff r c _).2 rfl)]
  · pointwise
  · rw [ValueIdx.constant_apply]
    exact lt_of_eq_of_lt bits_bot hbot
  · intro i hi
    have hd := (drop_iff r c i).1 hi
    have hk : ∃ d : Fin 128, i = ix4 0 r c d := ⟨i 3, hd⟩
    obtain ⟨d, rfl⟩ := hk
    rcases eq_or_ne d d₀ with rfl | hne
    · exact .inl rfl
    · exact .inr (hgt d hne)

end Cert.Proof.Ref

end
-- ==== Proof.RefValue.lean ====
/- What the reference computes, at an index: the perturbed logits, the softmax as each row's share, the code and the decoded
   result. -/
module

public import proofs.«01_k».proof.Proof.ArgMax
public import proofs.«01_k».proof.Proof.Consts
public import proofs.«01_k».proof.Proof.Scalar
public import Idealize.ShloMosaic.Lib.Pointwise

@[expose] public section

noncomputable section

namespace Cert.Proof.Ref

open Cert.ReferenceIdeal Cert.ReferenceIdeal.Facts₀ Idealize.ShloMosaic

/-- The noise that the reference adds to a logit: `k` the sharpness, `n` the uniform noise. -/
def noiseTerm (k n : EReal) : EReal :=
  -Ideal.log (-Ideal.log (k * (n - Ideal.ofBits .f32 0x3F000000#32) + Ideal.ofBits .f32 0x3F000000#32
    + Ideal.ofBits .f32 0x1E3CE508#32) + Ideal.ofBits .f32 0x1E3CE508#32)

/-- Place `d` of group `c` as a column. -/
def col (c : Fin 64) (d : Fin 128) : Fin 8192 := ⟨c.val * 128 + d.val, by omega⟩

/-- The perturbed logit at an index. -/
def pert (x : FVec Ideal S4096x256 .f32) (k : FVec Ideal S1 .f32) (we : FVec Ideal S256x8192 .f32)
    (be : FVec Ideal S8192 .f32) (xm xs : FVec Ideal S256 .f32) (noise : FVec Ideal S1x4096x64x128 .f32)
    (r : Fin 4096) (c : Fin 64) (d : Fin 128) : EReal :=
  ∑ i, Ideal.div (x (ix2 r i) - xm (ix1 i)) (xs (ix1 i)) * we (ix2 i (col c d)) + be (ix1 (col c d))
    + noiseTerm (k (ix1 0)) (noise (ix4 0 r c d))

theorem perturbed_apply (x : FVec Ideal S4096x256 .f32) (k : FVec Ideal S1 .f32) (we : FVec Ideal S256x8192 .f32)
    (be : FVec Ideal S8192 .f32) (xm xs : FVec Ideal S256 .f32) (noise : FVec Ideal S1x4096x64x128 .f32)
    (r : Fin 4096) (c : Fin 64) (d : Fin 128) :
    perturbed x k we be xm xs noise (ix4 0 r c d) = pert x k we be xm xs noise r c d := by
  refine Eq.trans ?_ (div_one' _)
  unfold pert noiseTerm col
  pointwise [perturbed, gumbel, logits]

/-- The largest of the values of each row. -/
def largest (a : FVec Ideal S1x4096x64x128 .f32) : FVec Ideal S1x4096x64 .f32 :=
  Host.reduce FloatOps.maximumf a (constant S_ .f32 0xFF800000#32) reducesTo_S1x4096x64x128_S1x4096x64_d3 h_S_

/-- The sum of the values of each row. -/
def total (e : FVec Ideal S1x4096x64x128 .f32) : FVec Ideal S1x4096x64 .f32 :=
  Host.reduceAdd e (constant S_ .f32 0x00000000#32) reducesTo_S1x4096x64x128_S1x4096x64_d3 h_S_

theorem largest_apply (a : FVec Ideal S1x4096x64x128 .f32) (r : Fin 4096) (c : Fin 64) :
    largest a (ix3 0 r c) = top fun d => a (ix4 0 r c d) := by
  unfold top
  rw [← bits_bot]
  pointwise [largest]

theorem total_apply (e : FVec Ideal S1x4096x64x128 .f32) (r : Fin 4096) (c : Fin 64) :
    total e (ix3 0 r c) = ∑ d, e (ix4 0 r c d) := by
  pointwise [total]

/-- The exponentials, given the largest values. -/
def expFrom (a : FVec Ideal S1x4096x64x128 .f32) (M : FVec Ideal S1x4096x64 .f32) : FVec Ideal S1x4096x64x128 .f32 :=
  Host.exp
    (subf a
      (broadcastInDim S1x4096x64x128 ![0, 1, 2, 3] bcast_S1x4096x64x1_S1x4096x64x128_0_1_2_3
        (broadcastInDim S1x4096x64x1 ![0, 1, 2] bcast_S1x4096x64_S1x4096x64x1_0_1_2
          (maximumf (broadcastInDim S1x4096x64 ![] bcast_S_S1x4096x64 (constant S_ .f32 0xFF800000#32)) M))))

/-- The shares, given the sums. -/
def softFrom (e : FVec Ideal S1x4096x64x128 .f32) (N : FVec Ideal S1x4096x64 .f32) : FVec Ideal S1x4096x64x128 .f32 :=
  Host.divf e
    (broadcastInDim S1x4096x64x128 ![0, 1, 2, 3] bcast_S1x4096x64x1_S1x4096x64x128_0_1_2_3
      (broadcastInDim S1x4096x64x1 ![0, 1, 2] bcast_S1x4096x64_S1x4096x64x1_0_1_2 N))

theorem expFrom_apply (a : FVec Ideal S1x4096x64x128 .f32) (M : FVec Ideal S1x4096x64 .f32) (r : Fin 4096) (c : Fin 64) (d : Fin 128) :
    expFrom a M (ix4 0 r c d) = Ideal.exp (a (ix4 0 r c d) - max (Ideal.ofBits .f32 0xFF800000#32) (M (ix3 0 r c))) := by
  pointwise [expFrom]

theorem softFrom_apply (e : FVec Ideal S1x4096x64x128 .f32) (N : FVec Ideal S1x4096x64 .f32) (r : Fin 4096) (c : Fin 64) (d : Fin 128) :
    softFrom e N (ix4 0 r c d) = Ideal.div (e (ix4 0 r c d)) (N (ix3 0 r c)) := by
  pointwise [softFrom]

theorem expShift_apply (a : FVec Ideal S1x4096x64x128 .f32) (r : Fin 4096) (c : Fin 64) (d : Fin 128) :
    expShift a (ix4 0 r c d) = Ideal.exp (a (ix4 0 r c d) - top fun d => a (ix4 0 r c d)) := by
  show expFrom a (largest a) (ix4 0 r c d) = _
  rw [expFrom_apply, largest_apply, bits_bot, max_eq_right bot_le]

/-- The softmax of a row is the row's shares. -/
theorem soft_apply (a : FVec Ideal S1x4096x64x128 .f32) (r : Fin 4096) (c : Fin 64) (d : Fin 128) :
    soft (expShift a) (ix4 0 r c d) = share (fun d => a (ix4 0 r c d)) d := by
  show softFrom (expShift a) (total (expShift a)) (ix4 0 r c d) = _
  rw [softFrom_apply, total_apply]
  simp only [expShift_apply]
  rfl

theorem oneHot_apply (w : IVec S1x4096x64 32) (r : Fin 4096) (c : Fin 64) (d : Fin 128) :
    oneHot w (ix4 0 r c d) = FloatOps.uitofp (F := Ideal) .f32 (IntOp.cmpi .eq (w (ix3 0 r c)) (BitVec.ofNat 32 d)) := by
  pointwise [oneHot]

/-- The one-hot of the winner: one at the winner, zero elsewhere. -/
theorem oneHot_of (w : IVec S1x4096x64 32) (r : Fin 4096) (c : Fin 64) (d d₀ : Fin 128) (h : w (ix3 0 r c) = BitVec.ofNat 32 d₀) :
    oneHot w (ix4 0 r c d) = if d = d₀ then 1 else 0 := by
  rw [oneHot_apply, h]
  have key : (BitVec.ofNat 32 d₀.val = BitVec.ofNat 32 d.val) ↔ d = d₀ := by
    rw [← BitVec.toNat_inj, BitVec.toNat_ofNat, BitVec.toNat_ofNat]
    constructor
    · intro e; apply Fin.ext; omega
    · rintro rfl; rfl
  by_cases hd : d = d₀
  · subst hd
    simp [IntOp.cmpi, FloatOps.uitofp]
  · have hne : ¬ BitVec.ofNat 32 d₀.val = BitVec.ofNat 32 d.val := fun e => hd (key.1 e)
    simp [IntOp.cmpi, FloatOps.uitofp, hd, hne]

theorem throughFrom_apply (h y : FVec Ideal S1x4096x64x128 .f32) (i : S1x4096x64x128.Idx) :
    addf (subf h y) y i = h i - y i + y i := rfl

/-- The straight-through code of a row whose largest value is one entry's alone: one there, zero elsewhere. -/
theorem through_apply (a : FVec Ideal S1x4096x64x128 .f32) (r : Fin 4096) (c : Fin 64) (d d₀ : Fin 128)
    (hlt : (top fun d => a (ix4 0 r c d)) < ⊤) (h₀ : a (ix4 0 r c d₀) = top fun d => a (ix4 0 r c d))
    (hone : ∀ d, a (ix4 0 r c d) = (top fun d => a (ix4 0 r c d)) → d = d₀) :
    through (soft (expShift a)) (ix4 0 r c d) = if d = d₀ then 1 else 0 := by
  obtain ⟨y, hy, hgt⟩ := share_of_one (fun d => a (ix4 0 r c d)) d₀ hlt h₀ hone
  have hs : ∀ d, soft (expShift a) (ix4 0 r c d) = (y d : EReal) := fun d => (soft_apply a r c d).trans (hy d)
  generalize soft (expShift a) = s at hs
  have hw : winner s (ix3 0 r c) = BitVec.ofNat 32 d₀ := winner_apply s r c d₀ (by rw [hs]; exact EReal.bot_lt_coe _)
    fun d hd => by rw [hs, hs]; exact EReal.coe_lt_coe_iff.2 (hgt d hd)
  unfold through
  generalize winner s = w at hw
  rw [throughFrom_apply, hs, oneHot_of w r c d d₀ hw]
  exact sub_add_real _ _

/-- The decoded result at an index. -/
theorem decoded_apply (q : FVec Ideal S4096x8192 .f32) (wd : FVec Ideal S8192x256 .f32) (bd ym ys : FVec Ideal S256 .f32)
    (r : Fin 4096) (j : Fin 256) :
    decoded q wd bd ym ys (ix2 r j) = (∑ x, q (ix2 r x) * wd (ix2 x j) + bd (ix1 j)) * ys (ix1 j) + ym (ix1 j) := by
  pointwise [decoded]

theorem shaped_apply (s : FVec Ideal S1x4096x64x128 .f32) (r : Fin 4096) (l : Fin 8192) :
    shapeCast S4096x8192 s shapeCasts_S1x4096x64x128_S4096x8192 (ix2 r l)
      = s (ix4 0 r (⟨l.val / 128, by omega⟩ : Fin 64) (⟨l.val % 128, by omega⟩ : Fin 128)) := by
  pointwise

end Cert.Proof.Ref

end
-- ==== Proof.Pre.lean ====
/- What the precondition says, at an index: the sharpness is a real number, each row's largest perturbed logit lies below the
   infinite, and one entry alone of each row attains it. -/
module

public import proofs.«01_k».proof.Defs
public import proofs.«01_k».proof.Proof.Gen.Pre_one_winner
public import proofs.«01_k».proof.Proof.RefValue
public import Idealize.ShloMosaic.Lib.IndicatorCount

@[expose] public section

noncomputable section

namespace Cert.Proof.Ref

open Cert.ReferenceIdeal Cert.ReferenceIdeal.Facts₀ Idealize.ShloMosaic

/-- Whether the sharpness lies below the infinite in size. -/
def finiteBit (k : FVec Ideal S1 .f32) (h : S_.BroadcastsInDim S1 ![]) : IVec S1 1 :=
  cmpf .olt (Host.absf k) (broadcastInDim S1 ![] h (constant S_ .f32 0x7F800000#32))

/-- A row's value over its last axis. -/
def lifted (M : FVec Ideal S1x4096x64 .f32) : FVec Ideal S1x4096x64x1 .f32 :=
  broadcastInDim S1x4096x64x1 ![0, 1, 2] bcast_S1x4096x64_S1x4096x64x1_0_1_2 M

/-- Whether the largest of each row lies below the infinite. -/
def belowBit (M : FVec Ideal S1x4096x64 .f32) (h : S_.BroadcastsInDim S1x4096x64x1 ![]) : IVec S1x4096x64x1 1 :=
  cmpf .olt (lifted M) (broadcastInDim S1x4096x64x1 ![] h (constant S_ .f32 0x7F800000#32))

/-- Which entries equal the largest of their row. -/
def attains (a : FVec Ideal S1x4096x64x128 .f32) (M : FVec Ideal S1x4096x64 .f32) : IVec S1x4096x64x128 1 :=
  cmpf .oeq a (broadcastInDim S1x4096x64x128 ![0, 1, 2, 3] bcast_S1x4096x64x1_S1x4096x64x128_0_1_2_3 (lifted M))

/-- How many entries of each row do. -/
def countOf (p : IVec S1x4096x64x128 1) (hlt : 1 < 32) : IVec S1x4096x64 32 :=
  Host.reduce IntOp.addi (extui 32 p hlt) (constantI S_ 32 0#32) reducesTo_S1x4096x64x128_S1x4096x64_d3 h_S_

/-- Whether it is one. -/
def oneBit (n : IVec S1x4096x64 32) (h : S_.BroadcastsInDim S1x4096x64 ![]) : IVec S1x4096x64 1 :=
  cmpi .eq n (broadcastInDim S1x4096x64 ![] h (constantI S_ 32 1#32))

theorem finiteBit_apply (k : FVec Ideal S1 .f32) (h) : finiteBit k h (ix1 0) = BitVec.ofBool (decide (max (k (ix1 0)) (-k (ix1 0)) < ⊤)) := by
  rw [← bits_top]
  pointwise [finiteBit]
  rfl

theorem belowBit_apply (M : FVec Ideal S1x4096x64 .f32) (h) (r : Fin 4096) (c : Fin 64) :
    belowBit M h (ix4 0 r c 0) = BitVec.ofBool (decide (M (ix3 0 r c) < ⊤)) := by
  rw [← bits_top]
  pointwise [belowBit, lifted]

theorem attains_apply (a : FVec Ideal S1x4096x64x128 .f32) (M : FVec Ideal S1x4096x64 .f32) (r : Fin 4096) (c : Fin 64) (d : Fin 128) :
    attains a M (ix4 0 r c d) = BitVec.ofBool (decide (a (ix4 0 r c d) = M (ix3 0 r c))) := by
  pointwise [attains, lifted]

theorem countOf_apply (p : IVec S1x4096x64x128 1) (h) (r : Fin 4096) (c : Fin 64) :
    countOf p h (ix3 0 r c) = Finset.univ.fold IntOp.addi 0#32 (fun d => (p (ix4 0 r c d)).setWidth 32) := by
  pointwise [countOf]

theorem oneBit_apply (n : IVec S1x4096x64 32) (h) (r : Fin 4096) (c : Fin 64) :
    oneBit n h (ix3 0 r c) = IntOp.cmpi .eq (n (ix3 0 r c)) 1#32 := by
  pointwise [oneBit]

/-- The predicate's three results are these. -/
theorem fn_eq (x : FVec Ideal S4096x256 .f32) (k : FVec Ideal S1 .f32) (we : FVec Ideal S256x8192 .f32)
    (be : FVec Ideal S8192 .f32) (wd : FVec Ideal S8192x256 .f32) (bd xm xs ym ys : FVec Ideal S256 .f32) (noise : FVec Ideal S1x4096x64x128 .f32) :
    Cert.Pre_one_winner.fn (F := Ideal) x k we be wd bd xm xs ym ys noise =
      (finiteBit k Cert.Pre_one_winner.Gen.bcast_S_S1,
        belowBit (largest (perturbed x k we be xm xs noise)) Cert.Pre_one_winner.Gen.bcast_S_S1x4096x64x1,
        oneBit (countOf (attains (perturbed x k we be xm xs noise) (largest (perturbed x k we be xm xs noise))) Cert.Pre_one_winner.Gen.natLt_1_32)
          Cert.Pre_one_winner.Gen.bcast_S_S1x4096x64) := rfl

/-- What the precondition says of perturbed logits `a` and sharpness `k`. -/
structure OneWinner (a : FVec Ideal S1x4096x64x128 .f32) (k : EReal) : Prop where
  sharp : ∃ κ : ℝ, k = κ
  below : ∀ r c, (top fun d => a (ix4 0 r c d)) < ⊤
  winner : ∀ r c, ∃ d₀, a (ix4 0 r c d₀) = (top fun d => a (ix4 0 r c d))
    ∧ ∀ d, a (ix4 0 r c d) = (top fun d => a (ix4 0 r c d)) → d = d₀

theorem ofBool_eq_one {p : Prop} [Decidable p] (h : BitVec.ofBool (decide p) = 1#1) : p := by
  by_contra hp
  simp [hp] at h

/-- A number whose size lies below the infinite is real. -/
theorem real_of_abs_lt (s : EReal) (h : max s (-s) < ⊤) : ∃ κ : ℝ, s = κ := by
  induction s with
  | bot => simp at h
  | top => simp at h
  | coe s => exact ⟨s, rfl⟩

/-- The precondition read off the predicate's bits. -/
theorem oneWinner_of (x : FVec Ideal S4096x256 .f32) (k : FVec Ideal S1 .f32) (we : FVec Ideal S256x8192 .f32)
    (be : FVec Ideal S8192 .f32) (wd : FVec Ideal S8192x256 .f32) (bd xm xs ym ys : FVec Ideal S256 .f32) (noise : FVec Ideal S1x4096x64x128 .f32)
    (h1 : (Cert.Pre_one_winner.fn (F := Ideal) x k we be wd bd xm xs ym ys noise).1 = fun _ => 1#1)
    (h2 : (Cert.Pre_one_winner.fn (F := Ideal) x k we be wd bd xm xs ym ys noise).2.1 = fun _ => 1#1)
    (h3 : (Cert.Pre_one_winner.fn (F := Ideal) x k we be wd bd xm xs ym ys noise).2.2 = fun _ => 1#1) :
    OneWinner (perturbed x k we be xm xs noise) (k (ix1 0)) := by
  rw [fn_eq] at h1 h2 h3
  dsimp only at h1 h2 h3
  generalize perturbed x k we be xm xs noise = a at h2 h3
  refine ⟨?_, fun r c => ?_, fun r c => ?_⟩
  · have h := ofBool_eq_one ((finiteBit_apply k _).symm.trans (congrFun h1 (ix1 0)))
    exact real_of_abs_lt _ h
  · rw [← largest_apply]
    exact ofBool_eq_one ((belowBit_apply _ _ r c).symm.trans (congrFun h2 (ix4 0 r c 0)))
  · have h := (oneBit_apply _ _ r c).symm.trans (congrFun h3 (ix3 0 r c))
    rw [countOf_apply, IndicatorCount.fold_addi_setWidth_eq_card] at h
    have hcard : (Finset.univ.filter fun d : Fin 128 => attains a (largest a) (ix4 0 r c d) = 1#1).card = 1 := by
      have hle : (Finset.univ.filter fun d : Fin 128 => attains a (largest a) (ix4 0 r c d) = 1#1).card ≤ 128 :=
        (Finset.card_le_univ _).trans (by simp)
      generalize (Finset.univ.filter fun d : Fin 128 => attains a (largest a) (ix4 0 r c d) = 1#1).card = n at h hle
      have h' : BitVec.ofNat 32 n = 1#32 := by
        by_contra hn
        simp only [IntOp.cmpi, beq_eq_false_iff_ne.2 hn] at h; exact absurd h (by decide)
      have := congrArg BitVec.toNat h'
      simp at this
      omega
    obtain ⟨d₀, hd₀⟩ := Finset.card_eq_one.1 hcard
    have key : ∀ d, a (ix4 0 r c d) = (top fun d => a (ix4 0 r c d)) ↔ d = d₀ := fun d => by
      have hm : d ∈ (Finset.univ.filter fun d : Fin 128 => attains a (largest a) (ix4 0 r c d) = 1#1) ↔ d ∈ ({d₀} : Finset (Fin 128)) := by
        rw [hd₀]
      rw [Finset.mem_singleton, Finset.mem_filter, attains_apply, largest_apply] at hm
      rw [← hm]
      constructor
      · intro e; exact ⟨Finset.mem_univ _, by rw [decide_eq_true e]; rfl⟩
      · rintro ⟨-, e⟩; exact ofBool_eq_one e
    exact ⟨d₀, (key d₀).2 rfl, fun d e => (key d).1 e⟩

end Cert.Proof.Ref

end
-- ==== Proof.Equation.lean ====
/- The kernel's two results are the reference's: the noise is the same number, so the perturbed logits agree, and where one
   entry alone attains a row's largest both codes are one there and zero elsewhere. -/
module

public import proofs.«01_k».proof.Defs
public import proofs.«01_k».proof.Proof.KernelArray
public import proofs.«01_k».proof.Proof.Pre
public import proofs.«01_k».proof.Proof.RefRun
public import proofs.«01_k».proof.Proof.Gen.Pre_one_winner
public import Idealize.ShloMosaic.Lib.Claim

@[expose] public section

noncomputable section

namespace Cert.Proof

open Idealize.ShloMosaic Idealize.SL.Sem

/-- The noise is the same where the sharpness is real. -/
theorem noise_eq (κ : ℝ) (n : EReal) : Ker.noiseTerm κ n = Ref.noiseTerm κ n := by
  unfold Ker.noiseTerm Ref.noiseTerm
  rw [named_neg, named_inv, named_half, bits_neg_half, bits_half, bits_tiny, fold_shift, neg_log_two, neg_log_two]

theorem col_place (l : Fin 8192) : Ref.col (Ker.groupOf l) (Ker.placeOf l) = l :=
  Fin.ext (by show l.val / 128 * 128 + l.val % 128 = l.val; omega)

theorem group_in (l : Fin 8192) (x : Fin 128) : Ker.groupOf (Ker.inGroup l x) = Ker.groupOf l :=
  Fin.ext (by show (l.val / 128 * 128 + x.val) / 128 = l.val / 128; omega)

theorem place_in (l : Fin 8192) (x : Fin 128) : Ker.placeOf (Ker.inGroup l x) = x :=
  Fin.ext (by show (l.val / 128 * 128 + x.val) % 128 = x.val; omega)

/-- The perturbed logits agree. -/
theorem pert_eq (x : FVec Ideal ⟨2, ![4096, 256]⟩ .f32) (k : FVec Ideal ⟨1, ![1]⟩ .f32) (we : FVec Ideal ⟨2, ![256, 8192]⟩ .f32)
    (be : FVec Ideal ⟨1, ![8192]⟩ .f32) (xm xs : FVec Ideal ⟨1, ![256]⟩ .f32) (noise : FVec Ideal ⟨4, ![1, 4096, 64, 128]⟩ .f32)
    (hk : ∃ κ : ℝ, k (ix1 0) = κ) (r : Fin 4096) (l : Fin 8192) :
    Ker.pert x k we be xm xs noise r l = Ref.perturbed x k we be xm xs noise (ix4 0 r (Ker.groupOf l) (Ker.placeOf l)) := by
  obtain ⟨κ, hκ⟩ := hk
  rw [Ref.perturbed_apply]
  unfold Ker.pert Ref.pert
  rw [hκ, noise_eq, col_place]

/-- A bit as a number. -/
theorem asNumber_eq (p : Prop) [Decidable p] : Ker.asNumber (decide p) = if p then 1 else 0 := by
  unfold Ker.asNumber
  by_cases h : p
  · rw [if_pos h, decide_eq_true h]
    show (((BitVec.setWidth 32 (BitVec.ofBool true)).toInt : ℝ) : EReal) = 1
    rw [show (BitVec.setWidth 32 (BitVec.ofBool true)).toInt = 1 by decide]
    simp
  · rw [if_neg h, decide_eq_false h]
    show (((BitVec.setWidth 32 (BitVec.ofBool false)).toInt : ℝ) : EReal) = 0
    rw [show (BitVec.setWidth 32 (BitVec.ofBool false)).toInt = 0 by decide]
    simp

/-- The codes agree, given that the perturbed logits do and that each row has one winner. -/
theorem hot_eq (b : Fin 4096 → Fin 8192 → EReal) (a : FVec Ideal ⟨4, ![1, 4096, 64, 128]⟩ .f32) (k : EReal)
    (hab : ∀ r l, b r l = a (ix4 0 r (Ker.groupOf l) (Ker.placeOf l))) (ha : Ref.OneWinner a k) (r : Fin 4096) (l : Fin 8192) :
    Ker.hot b r l = Ref.code a (ix2 r l) := by
  obtain ⟨d₀, h₀, hone⟩ := ha.winner r (Ker.groupOf l)
  unfold Ref.code
  rw [Ref.shaped_apply]
  refine Eq.trans ?_ (Ref.through_apply a r (Ker.groupOf l) (Ker.placeOf l) d₀ (ha.below r _) h₀ hone).symm
  have hfold : Finset.fold max (Ideal.ofBits .f32 0xFF800000#32) (fun x => b r (Ker.inGroup l x)) Finset.univ
      = top fun d => a (ix4 0 r (Ker.groupOf l) d) := by
    unfold top
    rw [bits_bot]
    refine congrArg (fun f => Finset.fold max ⊥ f Finset.univ) (funext fun d => ?_)
    rw [hab, group_in, place_in]
  unfold Ker.hot
  rw [hfold, hab, asNumber_eq]
  by_cases h : Ker.placeOf l = d₀
  · rw [if_pos h, if_pos (h ▸ h₀)]
  · rw [if_neg h, if_neg fun e => h (hone _ e)]

/-- The results agree, given that the codes do. -/
theorem decode_eq (q : Fin 4096 → Fin 8192 → EReal) (q' : FVec Ideal ⟨2, ![4096, 8192]⟩ .f32) (wd : FVec Ideal ⟨2, ![8192, 256]⟩ .f32)
    (bd ym ys : FVec Ideal ⟨1, ![256]⟩ .f32) (hq : ∀ r l, q r l = q' (ix2 r l)) (r : Fin 4096) (j : Fin 256) :
    Ker.decode q wd bd ym ys r j = Ref.decoded q' wd bd ym ys (ix2 r j) := by
  rw [Ref.decoded_apply]
  unfold Ker.decode
  simp only [hq]

section

variable (m : (ℓ : Loc KernelIdeal.nD KernelIdeal.τ KernelIdeal.sig) → Buf (Elt Ideal) ℓ) (c : Dev KernelIdeal.nD)

/-- The reference's perturbed logits over the kernel's arguments. -/
def sharedLogits : FVec Ideal ⟨4, ![1, 4096, 64, 128]⟩ .f32 :=
  Ref.perturbed (Ker.at0 m c KernelIdeal.main_arg0) (Ker.at0 m c KernelIdeal.main_arg1) (Ker.at0 m c KernelIdeal.main_arg2)
    (Ker.at0 m c KernelIdeal.main_arg3) (Ker.at0 m c KernelIdeal.main_arg6) (Ker.at0 m c KernelIdeal.main_arg7)
    (Ker.at0 m c KernelIdeal.main_arg10)

theorem oneWinner_at (hpre : Pre_KernelIdeal_one_winner m) :
    Ref.OneWinner (sharedLogits m c) ((Ker.at0 m c KernelIdeal.main_arg1 : FVec Ideal ⟨1, ![1]⟩ .f32) (ix1 0)) :=
  Ref.oneWinner_of _ _ _ _ _ _ _ _ _ _ _ (hpre c).1 (hpre c).2.1 (hpre c).2.2

theorem hotAt_eq (hpre : Pre_KernelIdeal_one_winner m) (r : Fin 4096) (l : Fin 8192) :
    Ker.hot (Ker.pertAt m c) r l = Ref.code (sharedLogits m c) (ix2 r l) :=
  hot_eq _ _ _ (fun r l => pert_eq _ _ _ _ _ _ _ (oneWinner_at m c hpre).sharp r l) (oneWinner_at m c hpre) r l

theorem codeArr_eq (hpre : Pre_KernelIdeal_one_winner m) : Ker.codeArr m c = Ref.code (sharedLogits m c) := by
  funext i
  obtain ⟨r, l, rfl⟩ : ∃ (r : Fin 4096) (l : Fin 8192), i = ix2 r l := ⟨i 0, i 1, funext fun b => by fin_cases b <;> rfl⟩
  exact hotAt_eq m c hpre r l

theorem resultArr_eq (hpre : Pre_KernelIdeal_one_winner m) :
    Ker.resultArr m c = Ref.decoded (Ref.code (sharedLogits m c)) (Ker.at0 m c KernelIdeal.main_arg4)
      (Ker.at0 m c KernelIdeal.main_arg5) (Ker.at0 m c KernelIdeal.main_arg8) (Ker.at0 m c KernelIdeal.main_arg9) := by
  funext i
  obtain ⟨r, j, rfl⟩ : ∃ (r : Fin 4096) (j : Fin 256), i = ix2 r j := ⟨i 0, i 1, funext fun b => by fin_cases b <;> rfl⟩
  exact decode_eq _ _ _ _ _ _ (hotAt_eq m c hpre) r j

end

/-- From memories that agree on the arguments the kernel and the reference end with equal results. -/
theorem algebraic : algebraic_KernelIdeal_ReferenceIdeal_pre_one_winner := by
  intro m g m' g' hpre hagree
  refine ⟨fun c => Ker.resultArr m c, fun c => Ker.codeArr m c, ?_, ?_⟩
  · refine θ_run_mono (Cert.KernelIdeal.Value.run_blocks m g) fun r hr c => ?_
    obtain ⟨h0, h1, hargs⟩ := hr c
    exact ⟨h0.trans (Ker.final11 m c), h1.trans (Ker.final12 m c), hargs⟩
  · refine θ_run_mono (Ref.run m' g') fun r hr c => ?_
    obtain ⟨h0, h1, hargs⟩ := hr c
    obtain ⟨e0, e1, e2, e3, e4, e5, e6, e7, e8, e9, e10⟩ := hagree c
    have hl : Ref.logitsAt m' c = sharedLogits m c := by
      unfold Ref.logitsAt sharedLogits Ref.at0 Ker.at0
      rw [e0, e1, e2, e3, e6, e7, e10]
    refine ⟨h0.trans ?_, h1.trans ?_, hargs⟩
    · refine Eq.trans ?_ (resultArr_eq m c hpre).symm
      rw [hl]
      unfold Ref.at0 Ker.at0
      rw [e4, e5, e8, e9]
    · refine Eq.trans ?_ (codeArr_eq m c hpre).symm
      rw [hl]

end Cert.Proof

end
-- ==== Proof.lean ====
/- The assembled claim. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_one_winner
public import proofs.«01_k».proof.Proof.Frames
public import proofs.«01_k».proof.Proof.Equation
public import Idealize.ShloMosaic.Init

@[expose] public section

noncomputable section

namespace Cert.Proof

open Idealize.ShloMosaic Idealize.SL.Sem Cert.Kernel

/-- Everything that the certificate claims. -/
theorem claim : Cert.Claim := ⟨Cert.Kernel.Gen.facts, Cert.KernelIdeal.Gen.facts, Cert.ReferenceIdeal.Gen.facts,
  Cert.Pre_one_winner.Gen.facts, kernel_frame, kernelIdeal_frame, kernelIdeal_frame_pre, reference_frame, reference_frame_pre,
  constants, algebraic⟩

end Cert.Proof

end
